-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1280x1536 : Shape := ⟨2, ![1280, 1536]⟩
abbrev S1280x128 : Shape := ⟨2, ![1280, 128]⟩
abbrev S768x6144 : Shape := ⟨2, ![768, 6144]⟩
abbrev S12x6144 : Shape := ⟨2, ![12, 6144]⟩
abbrev S1x6144 : Shape := ⟨2, ![1, 6144]⟩
abbrev S3072x1536 : Shape := ⟨2, ![3072, 1536]⟩
abbrev S48x1536 : Shape := ⟨2, ![48, 1536]⟩
abbrev S1x1536 : Shape := ⟨2, ![1, 1536]⟩
abbrev S1x12x6144 : Shape := ⟨3, ![1, 12, 6144]⟩
abbrev S2x640 : Shape := ⟨2, ![2, 640]⟩
abbrev S1280x6144 : Shape := ⟨2, ![1280, 6144]⟩
abbrev S640x1536 : Shape := ⟨2, ![640, 1536]⟩
abbrev S640x128 : Shape := ⟨2, ![640, 128]⟩
abbrev S768x1024 : Shape := ⟨2, ![768, 1024]⟩
abbrev S1x12x1024 : Shape := ⟨3, ![1, 12, 1024]⟩
abbrev S1x1024 : Shape := ⟨2, ![1, 1024]⟩
abbrev S512x1536 : Shape := ⟨2, ![512, 1536]⟩
abbrev S8x1536 : Shape := ⟨2, ![8, 1536]⟩
abbrev S640x1024 : Shape := ⟨2, ![640, 1024]⟩
abbrev S6x640x1024 : Shape := ⟨3, ![6, 640, 1024]⟩
abbrev S12x1024 : Shape := ⟨2, ![12, 1024]⟩
abbrev S768x1x1024 : Shape := ⟨3, ![768, 1, 1024]⟩
abbrev S768x2x1024 : Shape := ⟨3, ![768, 2, 1024]⟩
abbrev S1536x1024 : Shape := ⟨2, ![1536, 1024]⟩
abbrev S12x128x1024 : Shape := ⟨3, ![12, 128, 1024]⟩
abbrev S12x1x1024 : Shape := ⟨3, ![12, 1, 1024]⟩
abbrev S128x1536 : Shape := ⟨2, ![128, 1536]⟩
abbrev S128x1024 : Shape := ⟨2, ![128, 1024]⟩
abbrev S128x1 : Shape := ⟨2, ![128, 1]⟩
abbrev S1x128x1024 : Shape := ⟨3, ![1, 128, 1024]⟩
abbrev S128x128 : Shape := ⟨2, ![128, 128]⟩
abbrev S640 : Shape := ⟨1, ![640]⟩
abbrev S640x1 : Shape := ⟨2, ![640, 1]⟩
abbrev S2x1 : Shape := ⟨2, ![2, 1]⟩
abbrev S128 : Shape := ⟨1, ![128]⟩
abbrev S1x128 : Shape := ⟨2, ![1, 128]⟩
abbrev S1x640 : Shape := ⟨2, ![1, 640]⟩
abbrev S512x1x1536 : Shape := ⟨3, ![512, 1, 1536]⟩
abbrev S512x2x1536 : Shape := ⟨3, ![512, 2, 1536]⟩
abbrev S1024x1536 : Shape := ⟨2, ![1024, 1536]⟩
abbrev S8x128x1536 : Shape := ⟨3, ![8, 128, 1536]⟩
abbrev S8x1x1536 : Shape := ⟨3, ![8, 1, 1536]⟩
abbrev S2x128 : Shape := ⟨2, ![2, 128]⟩

abbrev nBuf : Space → Nat
  | .hbm => 17
  | .vmem => 33
  | .smem => 0
  | _ => 0

abbrev bufTy : (tb : Table) → Fin (tcTables nBuf tb) → BufTy
  | .hbm, ⟨0, _⟩ => ⟨S1280x1536, .i8⟩
  | .hbm, ⟨1, _⟩ => ⟨S1280x128, .f32⟩
  | .hbm, ⟨2, _⟩ => ⟨S1280x1536, .f32⟩
  | .hbm, ⟨3, _⟩ => ⟨S768x6144, .i8⟩
  | .hbm, ⟨4, _⟩ => ⟨S12x6144, .f32⟩
  | .hbm, ⟨5, _⟩ => ⟨S1x6144, .f32⟩
  | .hbm, ⟨6, _⟩ => ⟨S3072x1536, .i8⟩
  | .hbm, ⟨7, _⟩ => ⟨S48x1536, .f32⟩
  | .hbm, ⟨8, _⟩ => ⟨S1x1536, .f32⟩
  | .hbm, ⟨9, _⟩ => ⟨S1x1536, .f32⟩
  | .hbm, ⟨10, _⟩ => ⟨S1x1536, .f32⟩
  | .hbm, ⟨11, _⟩ => ⟨S1x12x6144, .f32⟩
  | .hbm, ⟨12, _⟩ => ⟨S1280x1536, .i8⟩
  | .hbm, ⟨13, _⟩ => ⟨S2x640, .f32⟩
  | .hbm, ⟨14, _⟩ => ⟨S1280x1536, .f32⟩
  | .hbm, ⟨15, _⟩ => ⟨S1280x6144, .i8⟩
  | .hbm, ⟨16, _⟩ => ⟨S2x640, .f32⟩
  | .local _ .vmem, ⟨0, _⟩ => ⟨S640x1536, .i8⟩
  | .local _ .vmem, ⟨1, _⟩ => ⟨S640x1536, .i8⟩
  | .local _ .vmem, ⟨2, _⟩ => ⟨S640x128, .f32⟩
  | .local _ .vmem, ⟨3, _⟩ => ⟨S640x128, .f32⟩
  | .local _ .vmem, ⟨4, _⟩ => ⟨S640x1536, .f32⟩
  | .local _ .vmem, ⟨5, _⟩ => ⟨S640x1536, .f32⟩
  | .local _ .vmem, ⟨6, _⟩ => ⟨S768x1024, .i8⟩
  | .local _ .vmem, ⟨7, _⟩ => ⟨S768x1024, .i8⟩
  | .local _ .vmem, ⟨8, _⟩ => ⟨S1x12x1024, .f32⟩
  | .local _ .vmem, ⟨9, _⟩ => ⟨S1x12x1024, .f32⟩
  | .local _ .vmem, ⟨10, _⟩ => ⟨S1x1024, .f32⟩
  | .local _ .vmem, ⟨11, _⟩ => ⟨S1x1024, .f32⟩
  | .local _ .vmem, ⟨12, _⟩ => ⟨S512x1536, .i8⟩
  | .local _ .vmem, ⟨13, _⟩ => ⟨S512x1536, .i8⟩
  | .local _ .vmem, ⟨14, _⟩ => ⟨S8x1536, .f32⟩
  | .local _ .vmem, ⟨15, _⟩ => ⟨S8x1536, .f32⟩
  | .local _ .vmem, ⟨16, _⟩ => ⟨S1x1536, .f32⟩
  | .local _ .vmem, ⟨17, _⟩ => ⟨S1x1536, .f32⟩
  | .local _ .vmem, ⟨18, _⟩ => ⟨S1x1536, .f32⟩
  | .local _ .vmem, ⟨19, _⟩ => ⟨S640x1536, .i8⟩
  | .local _ .vmem, ⟨20, _⟩ => ⟨S640x1536, .i8⟩
  | .local _ .vmem, ⟨21, _⟩ => ⟨S2x640, .f32⟩
  | .local _ .vmem, ⟨22, _⟩ => ⟨S640x1536, .f32⟩
  | .local _ .vmem, ⟨23, _⟩ => ⟨S640x1536, .f32⟩
  | .local _ .vmem, ⟨24, _⟩ => ⟨S640x1024, .i8⟩
  | .local _ .vmem, ⟨25, _⟩ => ⟨S640x1024, .i8⟩
  | .local _ .vmem, ⟨26, _⟩ => ⟨S2x640, .f32⟩
  | .local _ .vmem, ⟨27, _⟩ => ⟨S640x1536, .bf16⟩
  | .local _ .vmem, ⟨28, _⟩ => ⟨S6x640x1024, .f32⟩
  | .local _ .vmem, ⟨29, _⟩ => ⟨S640x128, .f32⟩
  | .local _ .vmem, ⟨30, _⟩ => ⟨S640x128, .f32⟩
  | .local _ .vmem, ⟨31, _⟩ => ⟨S640x128, .f32⟩
  | .local _ .vmem, ⟨32, _⟩ => ⟨S640x1536, .f32⟩
  | _, _ => ⟨S1280x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨2, ![2, 12], ![false, false]⟩

def k0_cond3 (i : grid0.Coords) : BitVec 1 :=
  let arg1 : BitVec 32 := BitVec.ofNat 32 (i 1).val
  let c6_i32 : BitVec 32 := 6#32
  let v8 : BitVec 1 := Scalar.cmpi .slt arg1 c6_i32
  let v9 : BitVec 32 := Scalar.extui v8
  let c0_i32_4 : BitVec 32 := 0#32
  let v10 : BitVec 1 := Scalar.cmpi .ne v9 c0_i32_4
  v10

def k0_off1 (i : grid0.Coords) : Fin 3 → Nat :=
  let arg1 : BitVec 32 := BitVec.ofNat 32 (i 1).val
  let v59 : Index := Scalar.indexCast arg1
  let c0_25 : Index := 0#32
  let c0_26 : Index := 0#32
  ![v59.toNat, 0, 0]
def k0_off2 (i : grid0.Coords) : Fin 3 → Nat :=
  let arg1 : BitVec 32 := BitVec.ofNat 32 (i 1).val
  let v107 : Index := Scalar.indexCast arg1
  let c128_40 : Index := 128#32
  let c0_41 : Index := 0#32
  ![v107.toNat, 128, 0]
def k0_off3 (i : grid0.Coords) : Fin 3 → Nat :=
  let arg1 : BitVec 32 := BitVec.ofNat 32 (i 1).val
  let v155 : Index := Scalar.indexCast arg1
  let c256_55 : Index := 256#32
  let c0_56 : Index := 0#32
  ![v155.toNat, 256, 0]
def k0_off4 (i : grid0.Coords) : Fin 3 → Nat :=
  let arg1 : BitVec 32 := BitVec.ofNat 32 (i 1).val
  let v203 : Index := Scalar.indexCast arg1
  let c384_70 : Index := 384#32
  let c0_71 : Index := 0#32
  ![v203.toNat, 384, 0]
def k0_off5 (i : grid0.Coords) : Fin 3 → Nat :=
  let arg1 : BitVec 32 := BitVec.ofNat 32 (i 1).val
  let v251 : Index := Scalar.indexCast arg1
  let c512_85 : Index := 512#32
  let c0_86 : Index := 0#32
  ![v251.toNat, 512, 0]
def k0_cond5 (i : grid0.Coords) : BitVec 1 :=
  let arg1 : BitVec 32 := BitVec.ofNat 32 (i 1).val
  let c6_i32_7 : BitVec 32 := 6#32
  let v14 : BitVec 1 := Scalar.cmpi .sge arg1 c6_i32_7
  let v15 : BitVec 32 := Scalar.extui v14
  let c0_i32_8 : BitVec 32 := 0#32
  let v16 : BitVec 1 := Scalar.cmpi .ne v15 c0_i32_8
  v16

def k0_off6 (i : grid0.Coords) : Fin 3 → Nat :=
  let arg1 : BitVec 32 := BitVec.ofNat 32 (i 1).val
  let c6_i32_15 : BitVec 32 := 6#32
  let v42 : BitVec 32 := Scalar.subi arg1 c6_i32_15
  let v43 : Index := Scalar.indexCast v42
  let c0_16 : Index := 0#32
  let c0_17 : Index := 0#32
  ![v43.toNat, 0, 0]
def k0_off7 (i : grid0.Coords) : Fin 3 → Nat :=
  let arg1 : BitVec 32 := BitVec.ofNat 32 (i 1).val
  let c6_i32_28 : BitVec 32 := 6#32
  let v63 : BitVec 32 := Scalar.subi arg1 c6_i32_28
  let v64 : Index := Scalar.indexCast v63
  let c128 : Index := 128#32
  let c0_29 : Index := 0#32
  ![v64.toNat, 128, 0]
def k0_off8 (i : grid0.Coords) : Fin 3 → Nat :=
  let arg1 : BitVec 32 := BitVec.ofNat 32 (i 1).val
  let c6_i32_41 : BitVec 32 := 6#32
  let v84 : BitVec 32 := Scalar.subi arg1 c6_i32_41
  let v85 : Index := Scalar.indexCast v84
  let c256 : Index := 256#32
  let c0_42 : Index := 0#32
  ![v85.toNat, 256, 0]
def k0_off9 (i : grid0.Coords) : Fin 3 → Nat :=
  let arg1 : BitVec 32 := BitVec.ofNat 32 (i 1).val
  let c6_i32_54 : BitVec 32 := 6#32
  let v105 : BitVec 32 := Scalar.subi arg1 c6_i32_54
  let v106 : Index := Scalar.indexCast v105
  let c384 : Index := 384#32
  let c0_55 : Index := 0#32
  ![v106.toNat, 384, 0]
def k0_off10 (i : grid0.Coords) : Fin 3 → Nat :=
  let arg1 : BitVec 32 := BitVec.ofNat 32 (i 1).val
  let c6_i32_67 : BitVec 32 := 6#32
  let v126 : BitVec 32 := Scalar.subi arg1 c6_i32_67
  let v127 : Index := Scalar.indexCast v126
  let c512 : Index := 512#32
  let c0_68 : Index := 0#32
  ![v127.toNat, 512, 0]
def k0_cond6 (i : grid0.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_9 : BitVec 32 := 0#32
  let v19 : BitVec 1 := Scalar.cmpi .ne v18 c0_i32_9
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond4 (i : grid0.Coords) : BitVec 1 :=
  let arg1 : BitVec 32 := BitVec.ofNat 32 (i 1).val
  let c6_i32_5 : BitVec 32 := 6#32
  let v11 : BitVec 1 := Scalar.cmpi .eq arg1 c6_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  ![arg0.toNat, v1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x12x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1536 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S640x1536 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S2x640 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S640x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S640x1024 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S2x640 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== ReferenceIdeal.lean ====
abbrev S1280x1536 : Shape := ⟨2, ![1280, 1536]⟩
abbrev S1280x128 : Shape := ⟨2, ![1280, 128]⟩
abbrev S768x6144 : Shape := ⟨2, ![768, 6144]⟩
abbrev S12x6144 : Shape := ⟨2, ![12, 6144]⟩
abbrev S1x6144 : Shape := ⟨2, ![1, 6144]⟩
abbrev S3072x1536 : Shape := ⟨2, ![3072, 1536]⟩
abbrev S48x1536 : Shape := ⟨2, ![48, 1536]⟩
abbrev S1x1536 : Shape := ⟨2, ![1, 1536]⟩
abbrev S2x640 : Shape := ⟨2, ![2, 640]⟩
abbrev S1280x6144 : Shape := ⟨2, ![1280, 6144]⟩
abbrev S12x64x6144 : Shape := ⟨3, ![12, 64, 6144]⟩
abbrev S12x1x6144 : Shape := ⟨3, ![12, 1, 6144]⟩
abbrev S768x1x6144 : Shape := ⟨3, ![768, 1, 6144]⟩
abbrev S768x2x6144 : Shape := ⟨3, ![768, 2, 6144]⟩
abbrev S1536x6144 : Shape := ⟨2, ![1536, 6144]⟩
abbrev S1280x1 : Shape := ⟨2, ![1280, 1]⟩
abbrev S1280 : Shape := ⟨1, ![1280]⟩
abbrev S48x64x1536 : Shape := ⟨3, ![48, 64, 1536]⟩
abbrev S48x1x1536 : Shape := ⟨3, ![48, 1, 1536]⟩
abbrev S3072x1x1536 : Shape := ⟨3, ![3072, 1, 1536]⟩
abbrev S3072x2x1536 : Shape := ⟨3, ![3072, 2, 1536]⟩
abbrev S6144x1536 : Shape := ⟨2, ![6144, 1536]⟩

abbrev nBuf : Space → Nat
  | .hbm => 16
  | .vmem => 16
  | .smem => 0
  | _ => 0

abbrev bufTy : (tb : Table) → Fin (tcTables nBuf tb) → BufTy
  | .hbm, ⟨0, _⟩ => ⟨S1280x1536, .i8⟩
  | .hbm, ⟨1, _⟩ => ⟨S1280x128, .f32⟩
  | .hbm, ⟨2, _⟩ => ⟨S1280x1536, .f32⟩
  | .hbm, ⟨3, _⟩ => ⟨S768x6144, .i8⟩
  | .hbm, ⟨4, _⟩ => ⟨S12x6144, .f32⟩
  | .hbm, ⟨5, _⟩ => ⟨S1x6144, .f32⟩
  | .hbm, ⟨6, _⟩ => ⟨S3072x1536, .i8⟩
  | .hbm, ⟨7, _⟩ => ⟨S48x1536, .f32⟩
  | .hbm, ⟨8, _⟩ => ⟨S1x1536, .f32⟩
  | .hbm, ⟨9, _⟩ => ⟨S1x1536, .f32⟩
  | .hbm, ⟨10, _⟩ => ⟨S1x1536, .f32⟩
  | .hbm, ⟨11, _⟩ => ⟨S1280x1536, .i8⟩
  | .hbm, ⟨12, _⟩ => ⟨S2x640, .f32⟩
  | .hbm, ⟨13, _⟩ => ⟨S1280x1536, .f32⟩
  | .hbm, ⟨14, _⟩ => ⟨S1280x6144, .i8⟩
  | .hbm, ⟨15, _⟩ => ⟨S2x640, .f32⟩
  | .local _ .vmem, ⟨0, _⟩ => ⟨S1280x1536, .i8⟩
  | .local _ .vmem, ⟨1, _⟩ => ⟨S1280x128, .f32⟩
  | .local _ .vmem, ⟨2, _⟩ => ⟨S1280x1536, .f32⟩
  | .local _ .vmem, ⟨3, _⟩ => ⟨S768x6144, .i8⟩
  | .local _ .vmem, ⟨4, _⟩ => ⟨S12x6144, .f32⟩
  | .local _ .vmem, ⟨5, _⟩ => ⟨S1x6144, .f32⟩
  | .local _ .vmem, ⟨6, _⟩ => ⟨S3072x1536, .i8⟩
  | .local _ .vmem, ⟨7, _⟩ => ⟨S48x1536, .f32⟩
  | .local _ .vmem, ⟨8, _⟩ => ⟨S1x1536, .f32⟩
  | .local _ .vmem, ⟨9, _⟩ => ⟨S1x1536, .f32⟩
  | .local _ .vmem, ⟨10, _⟩ => ⟨S1x1536, .f32⟩
  | .local _ .vmem, ⟨11, _⟩ => ⟨S1280x1536, .i8⟩
  | .local _ .vmem, ⟨12, _⟩ => ⟨S2x640, .f32⟩
  | .local _ .vmem, ⟨13, _⟩ => ⟨S1280x1536, .f32⟩
  | .local _ .vmem, ⟨14, _⟩ => ⟨S1280x6144, .i8⟩
  | .local _ .vmem, ⟨15, _⟩ => ⟨S2x640, .f32⟩
  | _, _ => ⟨S1280x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1280x1536 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1536 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1280x1536 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x640 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1280x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1280x6144 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x640 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Bits.Setup.lean ====
/-
  The body of `Kernel`'s kernel: when each of its branches is taken, and the memory it is handed.
-/
module

public import proofs.«01_k».proof.Proof.Gen.Kernel.Frame
public import proofs.«01_k».proof.Proof.Gen.Kernel.Skeleton
public import proofs.«01_k».proof.Proof.Gen.Kernel.Points
public import proofs.«01_k».proof.Proof.Gen.Kernel.Launch
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's branches -/

/-- The condition of the body's branch 0: the first point of all. -/
abbrev cond0 (i : grid0.Coords) : Prop := k0_cond1 i = 1#1
theorem hcond0 : ∀ t : Fin cfg0.N, cond0 (grid0.coords t) ↔ t.val % 24 = 0 :=
  (fun t => by
    have ht : t.val < 24 := Nat.lt_of_lt_of_eq t.isLt N_0
    have e0 : (grid0.coords t 0).val = t.val / 12 % 2 := Pipeline.Grid.coords_val t 0 (by decide) rfl
    have e1 : (grid0.coords t 1).val = t.val / 1 % 12 := Pipeline.Grid.coords_val t 1 (by decide) rfl
    simp only [cond0, k0_cond1, e0, e1]
    word_cmp
   : ∀ t : Fin grid0.N, cond0 (grid0.coords t) ↔ t.val % 24 = 0)

/-- The condition of the body's branch 1: the first step of a batch row. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 12 = 0 :=
  (fun t => by
    have ht : t.val < 24 := Nat.lt_of_lt_of_eq t.isLt N_0
    have e0 : (grid0.coords t 0).val = t.val / 12 % 2 := Pipeline.Grid.coords_val t 0 (by decide) rfl
    have e1 : (grid0.coords t 1).val = t.val / 1 % 12 := Pipeline.Grid.coords_val t 1 (by decide) rfl
    simp only [cond1, e0, e1]
    word_cmp
   : ∀ t : Fin grid0.N, cond1 (grid0.coords t) ↔ t.val % 12 = 0)

/-- The condition of the body's branch 2: the six steps of the first product. -/
abbrev cond2 (i : grid0.Coords) : Prop := k0_cond3 i = 1#1
theorem hcond2 : ∀ t : Fin cfg0.N, cond2 (grid0.coords t) ↔ t.val % 12 ≤ 5 :=
  (by decide +kernel : ∀ t : Fin grid0.N, cond2 (grid0.coords t) ↔ t.val % 12 ≤ 5)

/-- The condition of the body's branch 3: the step that fixes the row scales. -/
abbrev cond3 (i : grid0.Coords) : Prop := k0_cond4 i = 1#1
theorem hcond3 : ∀ t : Fin cfg0.N, cond3 (grid0.coords t) ↔ t.val % 12 = 6 :=
  (fun t => by
    have ht : t.val < 24 := Nat.lt_of_lt_of_eq t.isLt N_0
    have e0 : (grid0.coords t 0).val = t.val / 12 % 2 := Pipeline.Grid.coords_val t 0 (by decide) rfl
    have e1 : (grid0.coords t 1).val = t.val / 1 % 12 := Pipeline.Grid.coords_val t 1 (by decide) rfl
    simp only [cond3, k0_cond4, e0, e1]
    word_cmp
   : ∀ t : Fin grid0.N, cond3 (grid0.coords t) ↔ t.val % 12 = 6)

/-- The condition of the body's branch 4: the six steps of the second product. -/
abbrev cond4 (i : grid0.Coords) : Prop := k0_cond5 i = 1#1
theorem hcond4 : ∀ t : Fin cfg0.N, cond4 (grid0.coords t) ↔ 6 ≤ t.val % 12 :=
  (by decide +kernel : ∀ t : Fin grid0.N, cond4 (grid0.coords t) ↔ 6 ≤ t.val % 12)

/-- The condition of the body's branch 5: the last step of a batch row. -/
abbrev cond5 (i : grid0.Coords) : Prop := k0_cond6 i = 1#1
theorem hcond5 : ∀ t : Fin cfg0.N, cond5 (grid0.coords t) ↔ t.val % 12 = 11 :=
  (fun t => by
    have ht : t.val < 24 := Nat.lt_of_lt_of_eq t.isLt N_0
    have e0 : (grid0.coords t 0).val = t.val / 12 % 2 := Pipeline.Grid.coords_val t 0 (by decide) rfl
    have e1 : (grid0.coords t 1).val = t.val / 1 % 12 := Pipeline.Grid.coords_val t 1 (by decide) rfl
    simp only [cond5, k0_cond6, e0, e1]
    word_cmp
   : ∀ t : Fin grid0.N, cond5 (grid0.coords t) ↔ t.val % 12 = 11)

/-! ## The operands the body is handed -/

abbrev ms0 (t : Fin cfg0.N) : Memref sig .tc .vmem S640x1536 .i8 := win0_0.stage (cfg0.slots t 0)
abbrev hs0 (t : Fin cfg0.N) : (ms0 t).IsWhole := hstage0_0 ((cfg0.slots t 0).cast nbuf0_0)
abbrev ms1 (t : Fin cfg0.N) : Memref sig .tc .vmem S640x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S640x1536 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x1024 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x12x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1536 .i8 := win0_6.stage (cfg0.slots t 6)
abbrev hs6 (t : Fin cfg0.N) : (ms6 t).IsWhole := hstage0_6 ((cfg0.slots t 6).cast nbuf0_6)
abbrev ms7 (t : Fin cfg0.N) : Memref sig .tc .vmem S8x1536 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1536 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1536 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1536 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S640x1536 .i8 := win0_11.stage (cfg0.slots t 11)
abbrev hs11 (t : Fin cfg0.N) : (ms11 t).IsWhole := hstage0_11 ((cfg0.slots t 11).cast nbuf0_11)
abbrev ms12 (t : Fin cfg0.N) : Memref sig .tc .vmem S2x640 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S640x1536 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S640x1024 .i8 := win0_14.stage (cfg0.slots t 14)
abbrev hs14 (t : Fin cfg0.N) : (ms14 t).IsWhole := hstage0_14 ((cfg0.slots t 14).cast nbuf0_14)
abbrev ms15 (t : Fin cfg0.N) : Memref sig .tc .vmem S2x640 .f32 := win0_15.stage (cfg0.slots t 15)
abbrev hs15 (t : Fin cfg0.N) : (ms15 t).IsWhole := hstage0_15 ((cfg0.slots t 15).cast nbuf0_15)
abbrev scM0 : Memref sig .tc .vmem S640x1536 .bf16 := Memref.whole cc0_scratch0
abbrev scM1 : Memref sig .tc .vmem S6x640x1024 .f32 := Memref.whole cc0_scratch1
abbrev scM2 : Memref sig .tc .vmem S640x128 .f32 := Memref.whole cc0_scratch2
abbrev scM3 : Memref sig .tc .vmem S640x128 .f32 := Memref.whole cc0_scratch3
abbrev scM4 : Memref sig .tc .vmem S640x128 .f32 := Memref.whole cc0_scratch4
abbrev scM5 : Memref sig .tc .vmem S640x1536 .f32 := Memref.whole cc0_scratch5

/-- The scratch buffers at some contents and the generator register at some state, spelled out. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

/-- The body table's row at point `t`'s slots is the body as `bodyAt0` spells it. -/
theorem defs_row (t : Fin cfg0.N) :
    defs₀ (F := F) .tc cfg0.body (cfg0.bodyArgs t (cfg0.slots t)) = bodyAt0 t := by
  unfold defs₀; rw [Defs.onTc_tc]

end Cert.Kernel.Hand

end
-- ==== Proof.Bits.Safe.lean ====
/-
  What it means for the kernel body to be safe at a grid point.
-/
module

public import proofs.«01_k».proof.Proof.Bits.Setup

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body at grid coordinates `i` is safe: from its inputs at any contents and its outputs and scratch at some, it runs to
the end and hands back the inputs as they were, the rest at some contents. -/
def Safe (F : FTy → Type) [FloatOps F] (i : grid0.Coords) : Prop := ∀ (c : Dev nD) (arg2 : Memref sig .tc .vmem S640x1536 .i8) (harg2 : arg2.IsWhole) (arg3 : Memref sig .tc .vmem S640x128 .f32) (harg3 : arg3.IsWhole) (arg4 : Memref sig .tc .vmem S640x1536 .f32) (harg4 : arg4.IsWhole) (arg5 : Memref sig .tc .vmem S768x1024 .i8) (harg5 : arg5.IsWhole) (arg6 : Memref sig .tc .vmem S1x12x1024 .f32) (harg6 : arg6.IsWhole) (arg7 : Memref sig .tc .vmem S1x1024 .f32) (harg7 : arg7.IsWhole) (arg8 : Memref sig .tc .vmem S512x1536 .i8) (harg8 : arg8.IsWhole) (arg9 : Memref sig .tc .vmem S8x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1x1536 .f32) (harg12 : arg12.IsWhole) (arg13 : Memref sig .tc .vmem S640x1536 .i8) (harg13 : arg13.IsWhole) (arg14 : Memref sig .tc .vmem S2x640 .f32) (harg14 : arg14.IsWhole) (arg15 : Memref sig .tc .vmem S640x1536 .f32) (harg15 : arg15.IsWhole) (arg16 : Memref sig .tc .vmem S640x1024 .i8) (harg16 : arg16.IsWhole) (arg17 : Memref sig .tc .vmem S2x640 .f32) (harg17 : arg17.IsWhole) (arg18 : Memref sig .tc .vmem S640x1536 .bf16) (harg18 : arg18.IsWhole) (arg19 : Memref sig .tc .vmem S6x640x1024 .f32) (harg19 : arg19.IsWhole) (arg20 : Memref sig .tc .vmem S640x128 .f32) (harg20 : arg20.IsWhole) (arg21 : Memref sig .tc .vmem S640x128 .f32) (harg21 : arg21.IsWhole) (arg22 : Memref sig .tc .vmem S640x128 .f32) (harg22 : arg22.IsWhole) (arg23 : Memref sig .tc .vmem S640x1536 .f32) (harg23 : arg23.IsWhole)
    (x2 : Vec F S640x1536 .i8) (x3 : Vec F S640x128 .f32) (x4 : Vec F S640x1536 .f32) (x5 : Vec F S768x1024 .i8) (x6 : Vec F S1x12x1024 .f32) (x7 : Vec F S1x1024 .f32) (x8 : Vec F S512x1536 .i8) (x9 : Vec F S8x1536 .f32) (x10 : Vec F S1x1536 .f32) (x11 : Vec F S1x1536 .f32) (x12 : Vec F S1x1536 .f32) (K : PUnit → sProp (MT nD τ sig Unit (Elt F) ℕ (UR sig nD τ) ℕ)),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K

end Cert.Kernel.Hand

end
-- ==== Proof.Bits.SafeA.lean ====
/-
  The kernel body is safe, case A of its branches.
-/
module

public import proofs.«01_k».proof.Proof.Bits.Safe

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body is safe in case A. -/
theorem safe_A (i : grid0.Coords) (hc0 : cond0 i) (hc1 : cond1 i) (hc2 : cond2 i) (hc3 : ¬cond3 i) (hc4 : ¬cond4 i) (hc5 : ¬cond5 i) : Safe F i := by
  intro c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 x6 x7 x8 x9 x10 x11 x12 K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  sl_exec (disch := first | sl_exact hc0 | sl_exact hc1 | sl_exact hc2 | sl_exact hc3 | sl_exact hc4 | sl_exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.Kernel.Hand

end
-- ==== Proof.Bits.SafeB.lean ====
/-
  The kernel body is safe, case B of its branches.
-/
module

public import proofs.«01_k».proof.Proof.Bits.SafeA

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body is safe in case B. -/
theorem safe_B (i : grid0.Coords) (hc0 : ¬cond0 i) (hc1 : cond1 i) (hc2 : cond2 i) (hc3 : ¬cond3 i) (hc4 : ¬cond4 i) (hc5 : ¬cond5 i) : Safe F i := by
  intro c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 x6 x7 x8 x9 x10 x11 x12 K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  sl_exec (disch := first | sl_exact hc0 | sl_exact hc1 | sl_exact hc2 | sl_exact hc3 | sl_exact hc4 | sl_exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.Kernel.Hand

end
-- ==== Proof.Bits.SafeC.lean ====
/-
  The kernel body is safe, case C of its branches.
-/
module

public import proofs.«01_k».proof.Proof.Bits.SafeB

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body is safe in case C. -/
theorem safe_C (i : grid0.Coords) (hc0 : ¬cond0 i) (hc1 : ¬cond1 i) (hc2 : cond2 i) (hc3 : ¬cond3 i) (hc4 : ¬cond4 i) (hc5 : ¬cond5 i) : Safe F i := by
  intro c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 x6 x7 x8 x9 x10 x11 x12 K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  sl_exec (disch := first | sl_exact hc0 | sl_exact hc1 | sl_exact hc2 | sl_exact hc3 | sl_exact hc4 | sl_exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.Kernel.Hand

end
-- ==== Proof.Bits.SafeD.lean ====
/-
  The kernel body is safe, case D of its branches.
-/
module

public import proofs.«01_k».proof.Proof.Bits.SafeC

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body is safe in case D. -/
theorem safe_D (i : grid0.Coords) (hc0 : ¬cond0 i) (hc1 : ¬cond1 i) (hc2 : ¬cond2 i) (hc3 : cond3 i) (hc4 : cond4 i) (hc5 : ¬cond5 i) : Safe F i := by
  intro c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 x6 x7 x8 x9 x10 x11 x12 K
  simp only [cc0_ffn_eq_skeleton]; unfold cc0_ffn_skel
  simp only [k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  sl_exec (disch := first | sl_exact hc0 | sl_exact hc1 | sl_exact hc2 | sl_exact hc3 | sl_exact hc4 | sl_exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.Kernel.Hand

end
-- ==== Proof.Bits.SafeE.lean ====
/-
  The kernel body is safe, case E of its branches.
-/
module

public import proofs.«01_k».proof.Proof.Bits.SafeD

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body is safe in case E. -/
theorem safe_E (i : grid0.Coords) (hc0 : ¬cond0 i) (hc1 : ¬cond1 i) (hc2 : ¬cond2 i) (hc3 : ¬cond3 i) (hc4 : cond4 i) (hc5 : ¬cond5 i) : Safe F i := by
  intro c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 x6 x7 x8 x9 x10 x11 x12 K
  simp only [cc0_ffn_eq_skeleton]; unfold cc0_ffn_skel
  simp only [k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  sl_exec (disch := first | sl_exact hc0 | sl_exact hc1 | sl_exact hc2 | sl_exact hc3 | sl_exact hc4 | sl_exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.Kernel.Hand

end
-- ==== Proof.Bits.SafeG.lean ====
/-
  The kernel body is safe, case G of its branches.
-/
module

public import proofs.«01_k».proof.Proof.Bits.SafeE

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body is safe in case G. -/
theorem safe_G (i : grid0.Coords) (hc0 : ¬cond0 i) (hc1 : ¬cond1 i) (hc2 : ¬cond2 i) (hc3 : ¬cond3 i) (hc4 : cond4 i) (hc5 : cond5 i) : Safe F i := by
  intro c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 x6 x7 x8 x9 x10 x11 x12 K
  simp only [cc0_ffn_eq_skeleton]; unfold cc0_ffn_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  sl_exec (disch := first | sl_exact hc0 | sl_exact hc1 | sl_exact hc2 | sl_exact hc3 | sl_exact hc4 | sl_exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.Kernel.Hand

end
-- ==== Proof.Bits.Frame.lean ====
/-
  The frame of the kernel: every weakly fair run ends, with its arguments unchanged and every counter at zero.
-/
module

public import proofs.«01_k».proof.Proof.Bits.SafeG
public import Idealize.ShloMosaic.Lib.Pipeline.Cells
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body is safe at every grid point. -/
theorem safe (t : Fin cfg0.N) : Safe F (grid0.coords t) := by
  have hN : t.val < 24 := lt_of_lt_of_eq t.isLt N_0
  have e0 := hcond0 t; have e1 := hcond1 t; have e2 := hcond2 t; have e3 := hcond3 t; have e4 := hcond4 t; have e5 := hcond5 t
  by_cases h0 : t.val % 24 = 0
  · exact safe_A _ (e0.mpr h0) (e1.mpr (by omega)) (e2.mpr (by omega)) (fun h => absurd (e3.mp h) (by omega)) (fun h => absurd (e4.mp h) (by omega)) (fun h => absurd (e5.mp h) (by omega))
  have n0 : ¬cond0 (grid0.coords t) := fun h => h0 (e0.mp h)
  by_cases h1 : t.val % 12 = 0
  · exact safe_B _ n0 (e1.mpr h1) (e2.mpr (by omega)) (fun h => absurd (e3.mp h) (by omega)) (fun h => absurd (e4.mp h) (by omega)) (fun h => absurd (e5.mp h) (by omega))
  have n1 : ¬cond1 (grid0.coords t) := fun h => h1 (e1.mp h)
  by_cases h2 : t.val % 12 ≤ 5
  · exact safe_C _ n0 n1 (e2.mpr h2) (fun h => absurd (e3.mp h) (by omega)) (fun h => absurd (e4.mp h) (by omega)) (fun h => absurd (e5.mp h) (by omega))
  have n2 : ¬cond2 (grid0.coords t) := fun h => h2 (e2.mp h)
  by_cases h3 : t.val % 12 = 6
  · exact safe_D _ n0 n1 n2 (e3.mpr h3) (e4.mpr (by omega)) (fun h => absurd (e5.mp h) (by omega))
  have n3 : ¬cond3 (grid0.coords t) := fun h => h3 (e3.mp h)
  by_cases h5 : t.val % 12 = 11
  · exact safe_G _ n0 n1 n2 n3 (e4.mpr (by omega)) (e5.mpr h5)
  · exact safe_E _ n0 n1 n2 n3 (e4.mpr (by omega)) (fun h => h5 (e5.mp h))

variable (m : (ℓ : Loc nD τ sig) → Buf (Elt F) ℓ) (ρ : Dev nD → PrngReg)

/-- The proof data: an input is left as found, nothing is said of an output, the scratch is at some contents. -/
def rdat (c : Dev nD) : RDat τ (Elt F) Unit ℕ (UR sig nD τ) ℕ cfg0 c where
  A w := V m c (Pipeline.arrRef spec0 w)
  after w _ Y X := w.val < 11 → X = Y
  Φ _ := Pipeline.ΦA spec0 c
  q _ := fullShare
  owed _ := 0

/-- The body at a point, window by window. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9)
    ∗ owns (c : Thread nD τ) (ms10 t) fullShare (Y 10)
    ∗ owns (c : Thread nD τ) (ms11 t) fullShare (Y 11)
    ∗ owns (c : Thread nD τ) (ms12 t) fullShare (Y 12)
    ∗ owns (c : Thread nD τ) (ms13 t) fullShare (Y 13)
    ∗ owns (c : Thread nD τ) (ms14 t) fullShare (Y 14)
    ∗ owns (c : Thread nD τ) (ms15 t) fullShare (Y 15))
      ⊢ wp frame (wpE (defs₀ (F := F)) Variants.none c none) Set.univ (bodyAt0 t) (fun _ => iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X)
    ∗ (∃ X, ⌜(rdat m c).after 9 t (Y 9) X⌝ ∗ owns (c : Thread nD τ) (ms9 t) fullShare X)
    ∗ (∃ X, ⌜(rdat m c).after 10 t (Y 10) X⌝ ∗ owns (c : Thread nD τ) (ms10 t) fullShare X)
    ∗ (∃ X, ⌜(rdat m c).after 11 t (Y 11) X⌝ ∗ owns (c : Thread nD τ) (ms11 t) fullShare X)
    ∗ (∃ X, ⌜(rdat m c).after 12 t (Y 12) X⌝ ∗ owns (c : Thread nD τ) (ms12 t) fullShare X)
    ∗ (∃ X, ⌜(rdat m c).after 13 t (Y 13) X⌝ ∗ owns (c : Thread nD τ) (ms13 t) fullShare X)
    ∗ (∃ X, ⌜(rdat m c).after 14 t (Y 14) X⌝ ∗ owns (c : Thread nD τ) (ms14 t) fullShare X)
    ∗ (∃ X, ⌜(rdat m c).after 15 t (Y 15) X⌝ ∗ owns (c : Thread nD τ) (ms15 t) fullShare X))) := by
  unfold bodyAt0
  rw [show (rdat m c).owesAt () t.succ = (rdat m c).owesAt () t.castSucc from rfl,
    show (rdat m c).Φ t.succ = Pipeline.ΦA spec0 c from rfl, show (rdat m c).Φ t.castSucc = Pipeline.ΦA spec0 c from rfl, PhiA_eq]
  iintro ⟨⟨⟨HS0, HS1, HS2, HS3, HS4, HS5⟩, Hg⟩, HO, H0, H1, H2, H3, H4, H5, H6, H7, H8, H9, H10, H11, H12, H13, H14, H15⟩
  iapply (safe t c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) scM2 (Memref.isWhole_whole _) scM3 (Memref.isWhole_whole _) scM4 (Memref.isWhole_whole _) scM5 (Memref.isWhole_whole _) (Y 0) (Y 1) (Y 2) (Y 3) (Y 4) (Y 5) (Y 6) (Y 7) (Y 8) (Y 9) (Y 10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, ⟨%d11, H11⟩, ⟨%d12, H12⟩, ⟨%d13, H13⟩, ⟨%d14, H14⟩, ⟨%d15, H15⟩, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [HO]; · iexact HO
  isplitl [H0]
  · iexists _; isplitr; swap; · iexact H0
    ipureintro; exact fun _ => rfl
  isplitl [H1]
  · iexists _; isplitr; swap; · iexact H1
    ipureintro; exact fun _ => rfl
  isplitl [H2]
  · iexists _; isplitr; swap; · iexact H2
    ipureintro; exact fun _ => rfl
  isplitl [H3]
  · iexists _; isplitr; swap; · iexact H3
    ipureintro; exact fun _ => rfl
  isplitl [H4]
  · iexists _; isplitr; swap; · iexact H4
    ipureintro; exact fun _ => rfl
  isplitl [H5]
  · iexists _; isplitr; swap; · iexact H5
    ipureintro; exact fun _ => rfl
  isplitl [H6]
  · iexists _; isplitr; swap; · iexact H6
    ipureintro; exact fun _ => rfl
  isplitl [H7]
  · iexists _; isplitr; swap; · iexact H7
    ipureintro; exact fun _ => rfl
  isplitl [H8]
  · iexists _; isplitr; swap; · iexact H8
    ipureintro; exact fun _ => rfl
  isplitl [H9]
  · iexists _; isplitr; swap; · iexact H9
    ipureintro; exact fun _ => rfl
  isplitl [H10]
  · iexists _; isplitr; swap; · iexact H10
    ipureintro; exact fun _ => rfl
  isplitl [H11]
  · iexists _; isplitr; swap; · iexact H11
    ipureintro; exact fun h => absurd h (by decide)
  isplitl [H12]
  · iexists _; isplitr; swap; · iexact H12
    ipureintro; exact fun h => absurd h (by decide)
  isplitl [H13]
  · iexists _; isplitr; swap; · iexact H13
    ipureintro; exact fun h => absurd h (by decide)
  isplitl [H14]
  · iexists _; isplitr; swap; · iexact H14
    ipureintro; exact fun h => absurd h (by decide)
  iexists _; isplitr; swap; · iexact H15
  ipureintro; exact fun h => absurd h (by decide)

/-- The library's body obligation: `sound_body` restated. -/
theorem body_obligation (c : Dev nD) : (rdat (F := F) m c).BodyObligation (defs₀ (F := F)) Variants.none () Set.univ := fun t Y _ => by
  rw [bigSep_W0, bigSep_W0, defs_row]
  exact triple_restated (sound_body m c t Y) rfl .rfl fun _ => .rfl

set_option backward.isDefEq.respectTransparency.types false in
/-- The run of @main: the arrays as the proof data say, every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl)
    (hin := fun _ => .rfl) (hout := fun _ => .rfl) (Q' := _) (hQ' := fun _ h => h)

/-- A run that leaves the arrays as the proof data say leaves every argument as at launch. -/
theorem args_kept (rdat : (c : Dev nD) → RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c))⟩) h

/-- The frame: after every run the eleven arguments are as at launch and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (args_kept m ρ (rdat m) (fun _ _ => rfl) ((θ_run defs _ _).mono (fun _ h => h.1) (run_main m ρ)))
    ((θ_run defs _ _).mono (fun _ h => h.2) (run_main m ρ))

end Cert.Kernel.Hand

end
-- ==== Proof.Ideal.Setup.lean ====
/-
  The body of `KernelIdeal`'s kernel: when each of its branches is taken, and the memory it is handed.
-/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's branches -/

/-- The condition of the body's branch 0: the first point of all. -/
abbrev cond0 (i : grid0.Coords) : Prop := k0_cond1 i = 1#1
theorem hcond0 : ∀ t : Fin cfg0.N, cond0 (grid0.coords t) ↔ t.val % 24 = 0 :=
  (fun t => by
    have ht : t.val < 24 := Nat.lt_of_lt_of_eq t.isLt N_0
    have e0 : (grid0.coords t 0).val = t.val / 12 % 2 := Pipeline.Grid.coords_val t 0 (by decide) rfl
    have e1 : (grid0.coords t 1).val = t.val / 1 % 12 := Pipeline.Grid.coords_val t 1 (by decide) rfl
    simp only [cond0, k0_cond1, e0, e1]
    word_cmp
   : ∀ t : Fin grid0.N, cond0 (grid0.coords t) ↔ t.val % 24 = 0)

/-- The condition of the body's branch 1: the first step of a batch row. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 12 = 0 :=
  (fun t => by
    have ht : t.val < 24 := Nat.lt_of_lt_of_eq t.isLt N_0
    have e0 : (grid0.coords t 0).val = t.val / 12 % 2 := Pipeline.Grid.coords_val t 0 (by decide) rfl
    have e1 : (grid0.coords t 1).val = t.val / 1 % 12 := Pipeline.Grid.coords_val t 1 (by decide) rfl
    simp only [cond1, e0, e1]
    word_cmp
   : ∀ t : Fin grid0.N, cond1 (grid0.coords t) ↔ t.val % 12 = 0)

/-- The condition of the body's branch 2: the six steps of the first product. -/
abbrev cond2 (i : grid0.Coords) : Prop := k0_cond3 i = 1#1
theorem hcond2 : ∀ t : Fin cfg0.N, cond2 (grid0.coords t) ↔ t.val % 12 ≤ 5 :=
  (by decide +kernel : ∀ t : Fin grid0.N, cond2 (grid0.coords t) ↔ t.val % 12 ≤ 5)

/-- The condition of the body's branch 3: the step that fixes the row scales. -/
abbrev cond3 (i : grid0.Coords) : Prop := k0_cond4 i = 1#1
theorem hcond3 : ∀ t : Fin cfg0.N, cond3 (grid0.coords t) ↔ t.val % 12 = 6 :=
  (fun t => by
    have ht : t.val < 24 := Nat.lt_of_lt_of_eq t.isLt N_0
    have e0 : (grid0.coords t 0).val = t.val / 12 % 2 := Pipeline.Grid.coords_val t 0 (by decide) rfl
    have e1 : (grid0.coords t 1).val = t.val / 1 % 12 := Pipeline.Grid.coords_val t 1 (by decide) rfl
    simp only [cond3, k0_cond4, e0, e1]
    word_cmp
   : ∀ t : Fin grid0.N, cond3 (grid0.coords t) ↔ t.val % 12 = 6)

/-- The condition of the body's branch 4: the six steps of the second product. -/
abbrev cond4 (i : grid0.Coords) : Prop := k0_cond5 i = 1#1
theorem hcond4 : ∀ t : Fin cfg0.N, cond4 (grid0.coords t) ↔ 6 ≤ t.val % 12 :=
  (by decide +kernel : ∀ t : Fin grid0.N, cond4 (grid0.coords t) ↔ 6 ≤ t.val % 12)

/-- The condition of the body's branch 5: the last step of a batch row. -/
abbrev cond5 (i : grid0.Coords) : Prop := k0_cond6 i = 1#1
theorem hcond5 : ∀ t : Fin cfg0.N, cond5 (grid0.coords t) ↔ t.val % 12 = 11 :=
  (fun t => by
    have ht : t.val < 24 := Nat.lt_of_lt_of_eq t.isLt N_0
    have e0 : (grid0.coords t 0).val = t.val / 12 % 2 := Pipeline.Grid.coords_val t 0 (by decide) rfl
    have e1 : (grid0.coords t 1).val = t.val / 1 % 12 := Pipeline.Grid.coords_val t 1 (by decide) rfl
    simp only [cond5, k0_cond6, e0, e1]
    word_cmp
   : ∀ t : Fin grid0.N, cond5 (grid0.coords t) ↔ t.val % 12 = 11)

/-! ## The operands the body is handed -/

abbrev ms0 (t : Fin cfg0.N) : Memref sig .tc .vmem S640x1536 .i8 := win0_0.stage (cfg0.slots t 0)
abbrev hs0 (t : Fin cfg0.N) : (ms0 t).IsWhole := hstage0_0 ((cfg0.slots t 0).cast nbuf0_0)
abbrev ms1 (t : Fin cfg0.N) : Memref sig .tc .vmem S640x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S640x1536 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x1024 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x12x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1536 .i8 := win0_6.stage (cfg0.slots t 6)
abbrev hs6 (t : Fin cfg0.N) : (ms6 t).IsWhole := hstage0_6 ((cfg0.slots t 6).cast nbuf0_6)
abbrev ms7 (t : Fin cfg0.N) : Memref sig .tc .vmem S8x1536 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1536 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1536 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1536 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S640x1536 .i8 := win0_11.stage (cfg0.slots t 11)
abbrev hs11 (t : Fin cfg0.N) : (ms11 t).IsWhole := hstage0_11 ((cfg0.slots t 11).cast nbuf0_11)
abbrev ms12 (t : Fin cfg0.N) : Memref sig .tc .vmem S2x640 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S640x1536 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S640x1024 .i8 := win0_14.stage (cfg0.slots t 14)
abbrev hs14 (t : Fin cfg0.N) : (ms14 t).IsWhole := hstage0_14 ((cfg0.slots t 14).cast nbuf0_14)
abbrev ms15 (t : Fin cfg0.N) : Memref sig .tc .vmem S2x640 .f32 := win0_15.stage (cfg0.slots t 15)
abbrev hs15 (t : Fin cfg0.N) : (ms15 t).IsWhole := hstage0_15 ((cfg0.slots t 15).cast nbuf0_15)
abbrev scM0 : Memref sig .tc .vmem S640x1536 .bf16 := Memref.whole cc0_scratch0
abbrev scM1 : Memref sig .tc .vmem S6x640x1024 .f32 := Memref.whole cc0_scratch1
abbrev scM2 : Memref sig .tc .vmem S640x128 .f32 := Memref.whole cc0_scratch2
abbrev scM3 : Memref sig .tc .vmem S640x128 .f32 := Memref.whole cc0_scratch3
abbrev scM4 : Memref sig .tc .vmem S640x128 .f32 := Memref.whole cc0_scratch4
abbrev scM5 : Memref sig .tc .vmem S640x1536 .f32 := Memref.whole cc0_scratch5

/-- The scratch buffers at some contents and the generator register at some state, spelled out. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

/-- The body table's row at point `t`'s slots is the body as `bodyAt0` spells it. -/
theorem defs_row (t : Fin cfg0.N) :
    defs₀ (F := F) .tc cfg0.body (cfg0.bodyArgs t (cfg0.slots t)) = bodyAt0 t := by
  unfold defs₀; rw [Defs.onTc_tc]

end Cert.KernelIdeal.Hand

end
-- ==== Proof.Ideal.Chunks.lean ====
/-
  What one grid point stores, chunk by chunk: the body works on five chunks of 128 rows, and these are the chunks as
  functions of the vectors the body reads, with the rule that reads five stored chunks back as one vector.
-/
module

public import proofs.«01_k».proof.Proof.Ideal.Setup
public import Idealize.ShloMosaic.Lib.VecWindow
public import Idealize.ShloMosaic.Lib.Pipeline.Value
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- A buffer held at contents that read as `x` is owned at `x`. -/
theorem refold {s : Shape} {e : EltTy} {c : Dev nD} {m : Memref sig .tc .vmem s e} {f : m.view.ty.Contents (Elt F)} {x : Vec F s e}
    (h : m.view.read (Elt F) f = x) :
    (View.loc c.tc m.view ↦[m.view.set]{fullShare} f : sProp 𝕄) ⊢ owns (c : Thread nD τ) m fullShare x := by
  unfold owns
  iintro H
  iexists f
  isplitr; swap; · iexact H
  ipureintro; exact h

/-- A load through a unit-stride rectangle is a window of what the view reads. -/
theorem readAt_window {sig : RefSig} {κ : Kind} {sp : Space} {s : Shape} {e : EltTy} {Val : EltTy → Type} (v : View sig κ sp s e) (f : v.ty.Contents Val)
    {off size : Fin s.rank → ℕ} (inb : ∀ a, off a + size a ≤ s.size a) :
    v.readAt Val (Rect.unit off size inb).toLoadRect f = VecWindow.window (v.read Val f) off size inb := rfl

/-! ## Five chunks of 128 rows -/

theorem div_chunk (n k : ℕ) (h : 128 * k ≤ n) (h' : n < 128 * k + 128) : n / 128 = k := by omega
theorem mod_chunk (n k : ℕ) (h : 128 * k ≤ n) (h' : n < 128 * k + 128) : n % 128 = n - 128 * k := by omega

/-- Five chunks of 128 rows, one under the other. -/
def byRows {α : Type} {n : ℕ} (g : Fin 5 → (⟨2, ![128, n]⟩ : Shape).Idx → α) : (⟨2, ![640, n]⟩ : Shape).Idx → α :=
  fun y => g ⟨(y 0).val / 128, Nat.div_lt_of_lt_mul (y 0).isLt⟩ (ix2 ⟨(y 0).val % 128, Nat.mod_lt _ (by decide)⟩ (y 1))

theorem rows_inb {n : ℕ} (k : Fin 5) : ∀ a : Fin 2, (![128 * k.val, 0] : Fin 2 → ℕ) a + (![128, n] : Fin 2 → ℕ) a ≤ (![640, n] : Fin 2 → ℕ) a := by
  have := k.isLt
  intro a; fin_cases a
  · show 128 * k.val + 128 ≤ 640; omega
  · show 0 + n ≤ n; omega

theorem col_inb (k : Fin 5) : ∀ a : Fin 2, (![128 * k.val, 0] : Fin 2 → ℕ) a + (![128, 1] : Fin 2 → ℕ) a ≤ (![640, 128] : Fin 2 → ℕ) a := by
  have := k.isLt
  intro a; fin_cases a
  · show 128 * k.val + 128 ≤ 640; omega
  · show 0 + 1 ≤ 128; omega

/-- Chunk `k` of 640 rows. -/
def rowsOf {α : Type} {n : ℕ} (x : (⟨2, ![640, n]⟩ : Shape).Idx → α) (k : Fin 5) : (⟨2, ![128, n]⟩ : Shape).Idx → α :=
  VecWindow.window (s := ⟨2, ![640, n]⟩) x ![128 * k.val, 0] ![128, n] (rows_inb k)

/-- The first lane of chunk `k` of 640 rows of 128 lanes. -/
def colOf {α : Type} (x : S640x128.Idx → α) (k : Fin 5) : S128x1.Idx → α :=
  VecWindow.window (s := S640x128) x ![128 * k.val, 0] ![128, 1] (col_inb k)

theorem full2_inb {m n : ℕ} : ∀ a : Fin 2, (![0, 0] : Fin 2 → ℕ) a + (![m, n] : Fin 2 → ℕ) a ≤ (![m, n] : Fin 2 → ℕ) a := by
  intro a; fin_cases a
  · show 0 + m ≤ m; omega
  · show 0 + n ≤ n; omega
theorem full3_inb {l m n : ℕ} : ∀ a : Fin 3, (![0, 0, 0] : Fin 3 → ℕ) a + (![l, m, n] : Fin 3 → ℕ) a ≤ (![l, m, n] : Fin 3 → ℕ) a := by
  intro a; fin_cases a
  · show 0 + l ≤ l; omega
  · show 0 + m ≤ m; omega
  · show 0 + n ≤ n; omega

/-- A matrix read through the window that is all of it. -/
def full2 {α : Type} {m n : ℕ} (x : (⟨2, ![m, n]⟩ : Shape).Idx → α) : (⟨2, ![m, n]⟩ : Shape).Idx → α :=
  VecWindow.window (s := ⟨2, ![m, n]⟩) x ![0, 0] ![m, n] full2_inb
theorem full2_eq {α : Type} {m n : ℕ} (x : (⟨2, ![m, n]⟩ : Shape).Idx → α) : full2 x = x := by
  funext y
  refine congrArg x (funext fun a => Fin.ext ?_)
  fin_cases a
  · show 0 + 1 * (y 0).val = (y 0).val; omega
  · show 0 + 1 * (y 1).val = (y 1).val; omega

/-- A rank-3 array read through the window that is all of it. -/
def full3 {α : Type} {l m n : ℕ} (x : (⟨3, ![l, m, n]⟩ : Shape).Idx → α) : (⟨3, ![l, m, n]⟩ : Shape).Idx → α :=
  VecWindow.window (s := ⟨3, ![l, m, n]⟩) x ![0, 0, 0] ![l, m, n] full3_inb
theorem full3_eq {α : Type} {l m n : ℕ} (x : (⟨3, ![l, m, n]⟩ : Shape).Idx → α) : full3 x = x := by
  funext y
  refine congrArg x (funext fun a => Fin.ext ?_)
  fin_cases a
  · show 0 + 1 * (y 0).val = (y 0).val; omega
  · show 0 + 1 * (y 1).val = (y 1).val; omega
  · show 0 + 1 * (y 2).val = (y 2).val; omega

/-- Five stored chunks of 128 rows read as the five chunks, whatever lay under them. -/
theorem read_rows5 {sig : RefSig} {κ : Kind} {sp : Space} {e : EltTy} {Val : EltTy → Type} {n : ℕ} (v : View sig κ sp (⟨2, ![640, n]⟩ : Shape) e)
    (f : v.ty.Contents Val) (L : List (View.Piece Val (⟨2, ![640, n]⟩ : Shape) e)) (g : Fin 5 → (⟨2, ![128, n]⟩ : Shape).Idx → Val e)
    (i0 : ∀ a : Fin 2, (![0, 0] : Fin 2 → ℕ) a + (![128, n] : Fin 2 → ℕ) a ≤ (![640, n] : Fin 2 → ℕ) a)
    (i1 : ∀ a : Fin 2, (![128, 0] : Fin 2 → ℕ) a + (![128, n] : Fin 2 → ℕ) a ≤ (![640, n] : Fin 2 → ℕ) a)
    (i2 : ∀ a : Fin 2, (![256, 0] : Fin 2 → ℕ) a + (![128, n] : Fin 2 → ℕ) a ≤ (![640, n] : Fin 2 → ℕ) a)
    (i3 : ∀ a : Fin 2, (![384, 0] : Fin 2 → ℕ) a + (![128, n] : Fin 2 → ℕ) a ≤ (![640, n] : Fin 2 → ℕ) a)
    (i4 : ∀ a : Fin 2, (![512, 0] : Fin 2 → ℕ) a + (![128, n] : Fin 2 → ℕ) a ≤ (![640, n] : Fin 2 → ℕ) a) :
    v.read Val (v.writes Val f
      (⟨Rect.unit (s := ⟨2, ![640, n]⟩) ![512, 0] ![128, n] i4, g 4⟩ :: ⟨Rect.unit (s := ⟨2, ![640, n]⟩) ![384, 0] ![128, n] i3, g 3⟩
        :: ⟨Rect.unit (s := ⟨2, ![640, n]⟩) ![256, 0] ![128, n] i2, g 2⟩ :: ⟨Rect.unit (s := ⟨2, ![640, n]⟩) ![128, 0] ![128, n] i1, g 1⟩
        :: ⟨Rect.unit (s := ⟨2, ![640, n]⟩) ![0, 0] ![128, n] i0, g 0⟩ :: L)) = byRows g := by
  funext y
  have hy : (y 0).val < 640 := (y 0).isLt
  have key : ∀ (k : Fin 5), (h1 : 128 * k.val ≤ (y 0).val) → (h2 : (y 0).val < 128 * k.val + 128) →
      byRows g y = g k (ix2 ⟨(y 0).val - 128 * k.val, by omega⟩ (y 1)) := by
    intro k h1 h2
    have hk : (⟨(y 0).val / 128, Nat.div_lt_of_lt_mul (y 0).isLt⟩ : Fin 5) = k := Fin.ext (div_chunk _ _ h1 h2)
    have hm : (⟨(y 0).val % 128, Nat.mod_lt _ (by decide)⟩ : Fin 128) = ⟨(y 0).val - 128 * k.val, by omega⟩ := Fin.ext (mod_chunk _ _ h1 h2)
    unfold byRows
    rw [hk, hm]
  by_cases h4 : 512 ≤ (y 0).val
  · rw [key 4 h4 (by show _ < 128 * 4 + 128; omega)]
    exact View.read_writes_cons_rows_of_mem v f i4 (g 4) _ y _ rfl (by show _ = 512 + ((y 0).val - 128 * 4); omega) rfl
  rw [View.read_writes_cons_rows_of_not_mem v f i4 (g 4) _ y rfl rfl (by left; omega)]
  by_cases h3 : 384 ≤ (y 0).val
  · rw [key 3 h3 (by show _ < 128 * 3 + 128; omega)]
    exact View.read_writes_cons_rows_of_mem v f i3 (g 3) _ y _ rfl (by show _ = 384 + ((y 0).val - 128 * 3); omega) rfl
  rw [View.read_writes_cons_rows_of_not_mem v f i3 (g 3) _ y rfl rfl (by left; omega)]
  by_cases h2 : 256 ≤ (y 0).val
  · rw [key 2 h2 (by show _ < 128 * 2 + 128; omega)]
    exact View.read_writes_cons_rows_of_mem v f i2 (g 2) _ y _ rfl (by show _ = 256 + ((y 0).val - 128 * 2); omega) rfl
  rw [View.read_writes_cons_rows_of_not_mem v f i2 (g 2) _ y rfl rfl (by left; omega)]
  by_cases h1 : 128 ≤ (y 0).val
  · rw [key 1 h1 (by show _ < 128 * 1 + 128; omega)]
    exact View.read_writes_cons_rows_of_mem v f i1 (g 1) _ y _ rfl (by show _ = 128 + ((y 0).val - 128 * 1); omega) rfl
  rw [View.read_writes_cons_rows_of_not_mem v f i1 (g 1) _ y rfl rfl (by left; omega)]
  rw [key 0 (by show 128 * 0 ≤ _; omega) (by show _ < 128 * 0 + 128; omega)]
  exact View.read_writes_cons_rows_of_mem v f i0 (g 0) _ y _ rfl (by show _ = 0 + ((y 0).val - 128 * 0); omega) rfl

/-! ## The slab of the first product -/

/-- The array of slabs with slab `m` replaced by five chunks of 128 rows. -/
def putSlab {α : Type} (x : S6x640x1024.Idx → α) (m : ℕ) (g : Fin 5 → S128x1024.Idx → α) : S6x640x1024.Idx → α :=
  fun y => if (y 0).val = m then byRows g (ix2 (y 1) (y 2)) else x y

/-- Chunk `k` of 128 rows of slab `m`. -/
def slabOf {α : Type} (x : S6x640x1024.Idx → α) (m : ℕ) (k : Fin 5)
    (h : ∀ a : Fin 3, (![m, 128 * k.val, 0] : Fin 3 → ℕ) a + (![1, 128, 1024] : Fin 3 → ℕ) a ≤ (![6, 640, 1024] : Fin 3 → ℕ) a) : S1x128x1024.Idx → α :=
  VecWindow.window (s := S6x640x1024) x ![m, 128 * k.val, 0] ![1, 128, 1024] h

theorem slab_inb (m : ℕ) (hm : m < 6) (k : Fin 5) : ∀ a : Fin 3, (![m, 128 * k.val, 0] : Fin 3 → ℕ) a + (![1, 128, 1024] : Fin 3 → ℕ) a ≤ (![6, 640, 1024] : Fin 3 → ℕ) a := by
  have := k.isLt
  intro a; fin_cases a
  · show m + 1 ≤ 6; omega
  · show 128 * k.val + 128 ≤ 640; omega
  · show 0 + 1024 ≤ 1024; omega

/-- A stored chunk of a slab, read at a place. -/
theorem read_slab_cons {sig : RefSig} {κ : Kind} {sp : Space} {e : EltTy} {Val : EltTy → Type} (v : View sig κ sp S6x640x1024 e)
    (f : v.ty.Contents Val) (L : List (View.Piece Val S6x640x1024 e)) (m o : ℕ) (off : Fin 3 → ℕ) (hoff : off = ![m, o, 0])
    (inb : ∀ a : Fin 3, off a + (![1, 128, 1024] : Fin 3 → ℕ) a ≤ (![6, 640, 1024] : Fin 3 → ℕ) a) (w : S1x128x1024.Idx → Val e)
    (y : S6x640x1024.Idx) :
    v.read Val (v.writes Val f (⟨Rect.unit (s := S6x640x1024) off ![1, 128, 1024] inb, w⟩ :: L)) y
      = if h : (y 0).val = m ∧ o ≤ (y 1).val ∧ (y 1).val < o + 128 then w (ix3 (0 : Fin 1) ⟨(y 1).val - o, by omega⟩ (y 2))
        else v.read Val (v.writes Val f L) y := by
  have hy2 : (y 2).val < 1024 := (y 2).isLt
  by_cases h : (y 0).val = m ∧ o ≤ (y 1).val ∧ (y 1).val < o + 128
  · rw [dif_pos h]
    refine View.read_writes_cons_unit_of_mem v f inb w L y _ hoff ?_
    intro a; fin_cases a
    · show (y 0).val = m + 0; omega
    · show (y 1).val = o + ((y 1).val - o); omega
    · show (y 2).val = 0 + (y 2).val; omega
  · rw [dif_neg h]
    by_cases h0 : (y 0).val = m
    · refine View.read_writes_cons_unit_of_not_mem v f inb w L y hoff (1 : Fin 3) ?_
      show (y 1).val < o ∨ o + 128 ≤ (y 1).val
      by_contra hc
      exact h ⟨h0, by omega, by omega⟩
    · refine View.read_writes_cons_unit_of_not_mem v f inb w L y hoff (0 : Fin 3) ?_
      show (y 0).val < m ∨ m + 1 ≤ (y 0).val
      omega

/-- A chunk with a unit axis put in front. -/
abbrev up {α : Type} (g : S128x1024.Idx → α) : S1x128x1024.Idx → α := shapeCast S1x128x1024 g shapeCasts_S128x1024_S1x128x1024

theorem up_apply {α : Type} (g : S128x1024.Idx → α) (p : Fin 128) (q : Fin 1024) : up g (ix3 (0 : Fin 1) p q) = g (ix2 p q) := by
  refine (shapeCast_addUnit_apply _ g _ _).trans (congrArg g ?_)
  funext a; fin_cases a <;> rfl

/-- Five stored chunks of a slab read as the slab put in. -/
theorem read_slab5 {sig : RefSig} {κ : Kind} {sp : Space} {e : EltTy} {Val : EltTy → Type} (v : View sig κ sp S6x640x1024 e)
    (f : v.ty.Contents Val) (m : ℕ) (g : Fin 5 → S128x1024.Idx → Val e) (o0 o1 o2 o3 o4 : Fin 3 → ℕ)
    (i0 : ∀ a : Fin 3, o0 a + (![1, 128, 1024] : Fin 3 → ℕ) a ≤ (![6, 640, 1024] : Fin 3 → ℕ) a)
    (i1 : ∀ a : Fin 3, o1 a + (![1, 128, 1024] : Fin 3 → ℕ) a ≤ (![6, 640, 1024] : Fin 3 → ℕ) a)
    (i2 : ∀ a : Fin 3, o2 a + (![1, 128, 1024] : Fin 3 → ℕ) a ≤ (![6, 640, 1024] : Fin 3 → ℕ) a)
    (i3 : ∀ a : Fin 3, o3 a + (![1, 128, 1024] : Fin 3 → ℕ) a ≤ (![6, 640, 1024] : Fin 3 → ℕ) a)
    (i4 : ∀ a : Fin 3, o4 a + (![1, 128, 1024] : Fin 3 → ℕ) a ≤ (![6, 640, 1024] : Fin 3 → ℕ) a)
    (h0 : o0 = ![m, 0, 0]) (h1 : o1 = ![m, 128, 0]) (h2 : o2 = ![m, 256, 0]) (h3 : o3 = ![m, 384, 0]) (h4 : o4 = ![m, 512, 0]) :
    v.read Val (v.writes Val f
      [⟨Rect.unit (s := S6x640x1024) o4 ![1, 128, 1024] i4, up (g 4)⟩, ⟨Rect.unit (s := S6x640x1024) o3 ![1, 128, 1024] i3, up (g 3)⟩,
        ⟨Rect.unit (s := S6x640x1024) o2 ![1, 128, 1024] i2, up (g 2)⟩, ⟨Rect.unit (s := S6x640x1024) o1 ![1, 128, 1024] i1, up (g 1)⟩,
        ⟨Rect.unit (s := S6x640x1024) o0 ![1, 128, 1024] i0, up (g 0)⟩]) = putSlab (v.read Val f) m g := by
  funext y
  have hy : (y 1).val < 640 := (y 1).isLt
  have key : ∀ (k : Fin 5), (y 0).val = m → (hlo : 128 * k.val ≤ (y 1).val) → (hhi : (y 1).val < 128 * k.val + 128) →
      putSlab (v.read Val f) m g y = up (g k) (ix3 (0 : Fin 1) ⟨(y 1).val - 128 * k.val, by omega⟩ (y 2)) := by
    intro k hm hlo hhi
    refine Eq.trans ?_ (up_apply (g k) _ _).symm
    unfold putSlab
    rw [if_pos hm]
    have hk : (⟨(y 1).val / 128, Nat.div_lt_of_lt_mul (y 1).isLt⟩ : Fin 5) = k := Fin.ext (by show (y 1).val / 128 = k.val; omega)
    have hm : (⟨(y 1).val % 128, Nat.mod_lt _ (by decide)⟩ : Fin 128) = ⟨(y 1).val - 128 * k.val, by omega⟩ := Fin.ext (mod_chunk _ _ hlo hhi)
    show g ⟨(y 1).val / 128, _⟩ (ix2 ⟨(y 1).val % 128, _⟩ (y 2)) = _
    rw [hk, hm]
  rw [read_slab_cons v f _ m 512 o4 h4 i4]
  split
  next h => exact (key 4 h.1 (by show 128 * 4 ≤ _; omega) (by show _ < 128 * 4 + 128; omega)).symm
  next n4 =>
  rw [read_slab_cons v f _ m 384 o3 h3 i3]
  split
  next h => exact (key 3 h.1 (by show 128 * 3 ≤ _; omega) (by show _ < 128 * 3 + 128; omega)).symm
  next n3 =>
  rw [read_slab_cons v f _ m 256 o2 h2 i2]
  split
  next h => exact (key 2 h.1 (by show 128 * 2 ≤ _; omega) (by show _ < 128 * 2 + 128; omega)).symm
  next n2 =>
  rw [read_slab_cons v f _ m 128 o1 h1 i1]
  split
  next h => exact (key 1 h.1 (by show 128 * 1 ≤ _; omega) (by show _ < 128 * 1 + 128; omega)).symm
  next n1 =>
  rw [read_slab_cons v f _ m 0 o0 h0 i0]
  split
  next h => exact (key 0 h.1 (by show 128 * 0 ≤ _; omega) (by show _ < 128 * 0 + 128; omega)).symm
  next n0 =>
  rw [View.writes_nil]
  unfold putSlab
  rw [if_neg (by omega)]

/-! ## Five chunks of 128 lanes -/

/-- Five chunks of 128 lanes, one beside the other. -/
def byLanes {α : Type} (g : Fin 5 → S2x128.Idx → α) : S2x640.Idx → α :=
  fun y => g ⟨(y 1).val / 128, Nat.div_lt_of_lt_mul (y 1).isLt⟩ (ix2 (y 0) ⟨(y 1).val % 128, Nat.mod_lt _ (by decide)⟩)

theorem lanes_inb (k : Fin 5) : ∀ a : Fin 2, (![0, 128 * k.val] : Fin 2 → ℕ) a + (![2, 128] : Fin 2 → ℕ) a ≤ (![2, 640] : Fin 2 → ℕ) a := by
  have := k.isLt
  intro a; fin_cases a
  · show 0 + 2 ≤ 2; omega
  · show 128 * k.val + 128 ≤ 640; omega

/-- Chunk `k` of 640 lanes. -/
def lanesOf {α : Type} (x : S2x640.Idx → α) (k : Fin 5) : S2x128.Idx → α :=
  VecWindow.window (s := S2x640) x ![0, 128 * k.val] ![2, 128] (lanes_inb k)

/-- A stored chunk of 128 lanes, read at a place. -/
theorem read_lanes_cons {sig : RefSig} {κ : Kind} {sp : Space} {e : EltTy} {Val : EltTy → Type} (v : View sig κ sp S2x640 e)
    (f : v.ty.Contents Val) (L : List (View.Piece Val S2x640 e)) (o : ℕ)
    (inb : ∀ a : Fin 2, (![0, o] : Fin 2 → ℕ) a + (![2, 128] : Fin 2 → ℕ) a ≤ (![2, 640] : Fin 2 → ℕ) a) (w : S2x128.Idx → Val e) (y : S2x640.Idx) :
    v.read Val (v.writes Val f (⟨Rect.unit (s := S2x640) ![0, o] ![2, 128] inb, w⟩ :: L)) y
      = if h : o ≤ (y 1).val ∧ (y 1).val < o + 128 then w (ix2 (y 0) ⟨(y 1).val - o, by omega⟩)
        else v.read Val (v.writes Val f L) y := by
  by_cases h : o ≤ (y 1).val ∧ (y 1).val < o + 128
  · rw [dif_pos h]
    refine View.read_writes_cons_unit_of_mem v f inb w L y _ rfl ?_
    intro a; fin_cases a
    · show (y 0).val = 0 + (y 0).val; omega
    · show (y 1).val = o + ((y 1).val - o); omega
  · rw [dif_neg h]
    refine View.read_writes_cons_unit_of_not_mem v f inb w L y rfl (1 : Fin 2) ?_
    show (y 1).val < o ∨ o + 128 ≤ (y 1).val
    omega

/-- Five stored chunks of 128 lanes read as the five chunks. -/
theorem read_lanes5 {sig : RefSig} {κ : Kind} {sp : Space} {e : EltTy} {Val : EltTy → Type} (v : View sig κ sp S2x640 e)
    (f : v.ty.Contents Val) (L : List (View.Piece Val S2x640 e)) (g : Fin 5 → S2x128.Idx → Val e)
    (i0 : ∀ a : Fin 2, (![0, 0] : Fin 2 → ℕ) a + (![2, 128] : Fin 2 → ℕ) a ≤ (![2, 640] : Fin 2 → ℕ) a)
    (i1 : ∀ a : Fin 2, (![0, 128] : Fin 2 → ℕ) a + (![2, 128] : Fin 2 → ℕ) a ≤ (![2, 640] : Fin 2 → ℕ) a)
    (i2 : ∀ a : Fin 2, (![0, 256] : Fin 2 → ℕ) a + (![2, 128] : Fin 2 → ℕ) a ≤ (![2, 640] : Fin 2 → ℕ) a)
    (i3 : ∀ a : Fin 2, (![0, 384] : Fin 2 → ℕ) a + (![2, 128] : Fin 2 → ℕ) a ≤ (![2, 640] : Fin 2 → ℕ) a)
    (i4 : ∀ a : Fin 2, (![0, 512] : Fin 2 → ℕ) a + (![2, 128] : Fin 2 → ℕ) a ≤ (![2, 640] : Fin 2 → ℕ) a) :
    v.read Val (v.writes Val f
      (⟨Rect.unit (s := S2x640) ![0, 512] ![2, 128] i4, g 4⟩ :: ⟨Rect.unit (s := S2x640) ![0, 384] ![2, 128] i3, g 3⟩
        :: ⟨Rect.unit (s := S2x640) ![0, 256] ![2, 128] i2, g 2⟩ :: ⟨Rect.unit (s := S2x640) ![0, 128] ![2, 128] i1, g 1⟩
        :: ⟨Rect.unit (s := S2x640) ![0, 0] ![2, 128] i0, g 0⟩ :: L)) = byLanes g := by
  funext y
  have hy : (y 1).val < 640 := (y 1).isLt
  have key : ∀ (k : Fin 5), (hlo : 128 * k.val ≤ (y 1).val) → (hhi : (y 1).val < 128 * k.val + 128) →
      byLanes g y = g k (ix2 (y 0) ⟨(y 1).val - 128 * k.val, by omega⟩) := by
    intro k hlo hhi
    have hk : (⟨(y 1).val / 128, Nat.div_lt_of_lt_mul (y 1).isLt⟩ : Fin 5) = k := Fin.ext (by show (y 1).val / 128 = k.val; omega)
    have hm : (⟨(y 1).val % 128, Nat.mod_lt _ (by decide)⟩ : Fin 128) = ⟨(y 1).val - 128 * k.val, by omega⟩ := Fin.ext (mod_chunk _ _ hlo hhi)
    unfold byLanes
    rw [hk, hm]
  rw [read_lanes_cons v f _ 512 i4]
  split
  next h => exact (key 4 (by show 128 * 4 ≤ _; omega) (by show _ < 128 * 4 + 128; omega)).symm
  next n4 =>
  rw [read_lanes_cons v f _ 384 i3]
  split
  next h => exact (key 3 (by show 128 * 3 ≤ _; omega) (by show _ < 128 * 3 + 128; omega)).symm
  next n3 =>
  rw [read_lanes_cons v f _ 256 i2]
  split
  next h => exact (key 2 (by show 128 * 2 ≤ _; omega) (by show _ < 128 * 2 + 128; omega)).symm
  next n2 =>
  rw [read_lanes_cons v f _ 128 i1]
  split
  next h => exact (key 1 (by show 128 * 1 ≤ _; omega) (by show _ < 128 * 1 + 128; omega)).symm
  next n1 =>
  rw [read_lanes_cons v f _ 0 i0]
  split
  next h => exact (key 0 (by show 128 * 0 ≤ _; omega) (by show _ < 128 * 0 + 128; omega)).symm
  next n0 => omega

/-! ## The chunks the body computes -/

/-- The unpacked and scaled weights of one step of the first product. -/
abbrev wIn (x5 : Vec F S768x1024 .i8) (x6 : Vec F S1x12x1024 .f32) : FVec F S1536x1024 .bf16 := k0_pay12 (full2 x5) (full3 x6)
/-- The unpacked and scaled weights of one step of the second product. -/
abbrev wOut (x8 : Vec F S512x1536 .i8) (x9 : Vec F S8x1536 .f32) : FVec F S1024x1536 .bf16 := k0_pay42 (full2 x8) (full2 x9)

/-- Chunk `k` of the first product before its bias. -/
abbrev prodC (W : FVec F S1536x1024 .bf16) (hb : Vec F S640x1536 .bf16) (r : Vec F S640x128 .f32) (k : Fin 5) : FVec F S128x1024 .f32 :=
  k0_pay26 W (rowsOf hb k) (colOf r k)
/-- Chunk `k` of the activation. -/
abbrev actC (W : FVec F S1536x1024 .bf16) (hb : Vec F S640x1536 .bf16) (r : Vec F S640x128 .f32) (b : Vec F S1x1024 .f32) (k : Fin 5) : FVec F S128x1024 .f32 :=
  k0_pay27 (prodC W hb r k) (full2 b)
/-- Chunk `k` of the lane maxima. -/
abbrev maxC (W : FVec F S1536x1024 .bf16) (hb : Vec F S640x1536 .bf16) (r : Vec F S640x128 .f32) (b : Vec F S1x1024 .f32) (old : Vec F S640x128 .f32) (k : Fin 5) : FVec F S128x128 .f32 :=
  k0_pay29 (prodC W hb r k) (full2 b) (rowsOf old k)
/-- The array of slabs after a step of the first product. -/
def newF (m : ℕ) (W : FVec F S1536x1024 .bf16) (hb : Vec F S640x1536 .bf16) (r : Vec F S640x128 .f32) (b : Vec F S1x1024 .f32) (old : Vec F S6x640x1024 .f32) : Vec F S6x640x1024 .f32 :=
  putSlab old m (actC W hb r b)
/-- The lane maxima after a step of the first product. -/
def newMax (W : FVec F S1536x1024 .bf16) (hb : Vec F S640x1536 .bf16) (r : Vec F S640x128 .f32) (b : Vec F S1x1024 .f32) (old : Vec F S640x128 .f32) : Vec F S640x128 .f32 :=
  byRows (maxC W hb r b old)

/-- The row scales put in row `b` of the two rows of scales. -/
def newFs (b : ℕ) (mx : Vec F S640x128 .f32) (old : Vec F S2x640 .f32) : Vec F S2x640 .f32 :=
  k0_pay6 (k0_pay33 (full2 mx)) (k0_pay36 (BitVec.ofNat 32 b)) k0_pay37 (k0_pay38 (full2 mx)) (k0_pay39 (full2 mx)) (k0_pay40 (full2 mx)) (k0_pay41 (full2 mx)) (full2 old)

/-- Chunk `k` of the codes of slab `m`. -/
abbrev codesC (m : ℕ) (hm : m < 6) (f : Vec F S6x640x1024 .f32) (inv : Vec F S640x128 .f32) (k : Fin 5) : IVec S128x1024 8 :=
  k0_pay48 (slabOf f m k (slab_inb m hm k)) (colOf inv k)
/-- Chunk `k` of the second product's running sum. -/
abbrev sumC (m : ℕ) (hm : m < 6) (W : FVec F S1024x1536 .bf16) (f : Vec F S6x640x1024 .f32) (inv : Vec F S640x128 .f32) (old : Vec F S640x1536 .f32) (k : Fin 5) : FVec F S128x1536 .f32 :=
  k0_pay49 W (slabOf f m k (slab_inb m hm k)) (colOf inv k) (rowsOf old k)
/-- The codes a step of the second product stores. -/
def newCodes (m : ℕ) (hm : m < 6) (f : Vec F S6x640x1024 .f32) (inv : Vec F S640x128 .f32) : Vec F S640x1024 .i8 :=
  byRows (codesC m hm f inv)
/-- The running sum after a step of the second product. -/
def newSum (m : ℕ) (hm : m < 6) (W : FVec F S1024x1536 .bf16) (f : Vec F S6x640x1024 .f32) (inv : Vec F S640x128 .f32) (old : Vec F S640x1536 .f32) : Vec F S640x1536 .f32 :=
  byRows (sumC m hm W f inv old)

/-- Chunk `k` of the normalised result. -/
abbrev normC (y : Vec F S640x1536 .f32) (rep : Vec F S640x128 .f32) (b : Vec F S1x1536 .f32) (h : Vec F S640x1536 .f32) (g be : Vec F S1x1536 .f32) (k : Fin 5) : FVec F S128x1536 .f32 :=
  k0_pay64 (k0_pay63 (rowsOf y k) (colOf rep k)) (full2 b) (rowsOf h k) (full2 g) (full2 be)
/-- Chunk `k` of the result's row scales. -/
abbrev scaleC (y : Vec F S640x1536 .f32) (rep : Vec F S640x128 .f32) (b : Vec F S1x1536 .f32) (h : Vec F S640x1536 .f32) (g be : Vec F S1x1536 .f32) (k : Fin 5) : FVec F S128x1 .f32 :=
  k0_pay65 (k0_pay63 (rowsOf y k) (colOf rep k)) (full2 b) (rowsOf h k) (full2 g) (full2 be)
/-- Chunk `k` of the result's codes. -/
abbrev outC (y : Vec F S640x1536 .f32) (rep : Vec F S640x128 .f32) (b : Vec F S1x1536 .f32) (h : Vec F S640x1536 .f32) (g be : Vec F S1x1536 .f32) (k : Fin 5) : IVec S128x1536 8 :=
  k0_pay66 (normC y rep b h g be k) (scaleC y rep b h g be k)
/-- The normalised result. -/
def newH2 (y : Vec F S640x1536 .f32) (rep : Vec F S640x128 .f32) (b : Vec F S1x1536 .f32) (h : Vec F S640x1536 .f32) (g be : Vec F S1x1536 .f32) : Vec F S640x1536 .f32 :=
  byRows (normC y rep b h g be)
/-- The result's codes. -/
def newOut (y : Vec F S640x1536 .f32) (rep : Vec F S640x128 .f32) (b : Vec F S1x1536 .f32) (h : Vec F S640x1536 .f32) (g be : Vec F S1x1536 .f32) : Vec F S640x1536 .i8 :=
  byRows (outC y rep b h g be)
/-- The result's row scales put in row `p` of the two rows of scales. -/
def newOs (p : ℕ) (y : Vec F S640x1536 .f32) (rep : Vec F S640x128 .f32) (b : Vec F S1x1536 .f32) (h : Vec F S640x1536 .f32) (g be : Vec F S1x1536 .f32) (old : Vec F S2x640 .f32) : Vec F S2x640 .f32 :=
  byLanes fun k => k0_pay67 (BitVec.ofNat 32 p) (scaleC y rep b h g be k) (lanesOf old k)

/-! ## Where a step of the second product finds its slab -/

theorem off6_eq : ∀ i : grid0.Coords, k0_cond5 i = 1#1 → k0_off6 i = ![(i 1).val - 6, 0, 0] := by decide +kernel
theorem off7_eq : ∀ i : grid0.Coords, k0_cond5 i = 1#1 → k0_off7 i = ![(i 1).val - 6, 128, 0] := by decide +kernel
theorem off8_eq : ∀ i : grid0.Coords, k0_cond5 i = 1#1 → k0_off8 i = ![(i 1).val - 6, 256, 0] := by decide +kernel
theorem off9_eq : ∀ i : grid0.Coords, k0_cond5 i = 1#1 → k0_off9 i = ![(i 1).val - 6, 384, 0] := by decide +kernel
theorem off10_eq : ∀ i : grid0.Coords, k0_cond5 i = 1#1 → k0_off10 i = ![(i 1).val - 6, 512, 0] := by decide +kernel
theorem slab_lt (i : grid0.Coords) : (i 1).val - 6 < 6 := by have : (i 1).val < 12 := (i 1).isLt; omega

end Cert.KernelIdeal.Hand

end
-- ==== Proof.Ideal.State.lean ====
/-
  What the buffers hold after each grid point, as functions of the windows' blocks: the codes of a batch, the slabs of its activation, the lane maxima so far, the running sum of the second product, and the results.
-/
module

public import proofs.«01_k».proof.Proof.Ideal.Chunks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The block of input 0 at a point. -/
def in0 (t : Fin cfg0.N) : Vec F S640x1536 .i8 := iblk m c 0 t
/-- The block of input 1 at a point. -/
def in1 (t : Fin cfg0.N) : Vec F S640x128 .f32 := iblk m c 1 t
/-- The block of input 2 at a point. -/
def in2 (t : Fin cfg0.N) : Vec F S640x1536 .f32 := iblk m c 2 t
/-- The block of input 3 at a point. -/
def in3 (t : Fin cfg0.N) : Vec F S768x1024 .i8 := iblk m c 3 t
/-- The block of input 4 at a point. -/
def in4 (t : Fin cfg0.N) : Vec F S1x12x1024 .f32 := iblk m c 4 t
/-- The block of input 5 at a point. -/
def in5 (t : Fin cfg0.N) : Vec F S1x1024 .f32 := iblk m c 5 t
/-- The block of input 6 at a point. -/
def in6 (t : Fin cfg0.N) : Vec F S512x1536 .i8 := iblk m c 6 t
/-- The block of input 7 at a point. -/
def in7 (t : Fin cfg0.N) : Vec F S8x1536 .f32 := iblk m c 7 t
/-- The block of input 8 at a point. -/
def in8 (t : Fin cfg0.N) : Vec F S1x1536 .f32 := iblk m c 8 t
/-- The block of input 9 at a point. -/
def in9 (t : Fin cfg0.N) : Vec F S1x1536 .f32 := iblk m c 9 t
/-- The block of input 10 at a point. -/
def in10 (t : Fin cfg0.N) : Vec F S1x1536 .f32 := iblk m c 10 t

/-- Point `n` of the 24. -/
def pt (n : ℕ) : Fin cfg0.N := ⟨n % 24, lt_of_lt_of_eq (Nat.mod_lt _ (by decide)) N_0.symm⟩
theorem pt_eq (t : Fin cfg0.N) (n : ℕ) (h : n = t.val) : pt n = t :=
  Fin.ext (by show n % 24 = t.val; have := lt_of_lt_of_eq t.isLt N_0; omega)

/-- The codes of batch `b`. -/
def hB (b : ℕ) : Vec F S640x1536 .bf16 := k0_pay3 (full2 (in0 m c (pt (12 * b))))
/-- The weights of step `k` of batch `b`'s first product. -/
def w1B (b k : ℕ) : FVec F S1536x1024 .bf16 := wIn (in3 m c (pt (12 * b + k))) (in4 m c (pt (12 * b + k)))
/-- Slab `k` of batch `b`'s activation, chunk by chunk. -/
def slabB (b k : ℕ) : Fin 5 → S128x1024.Idx → F .f32 :=
  actC (w1B m c b k) (hB m c b) (in1 m c (pt (12 * b + k))) (in5 m c (pt (12 * b + k)))
/-- Batch `b`'s activation. -/
def fB (b : ℕ) : Vec F S6x640x1024 .f32 := fun y => byRows (slabB m c b (y 0).val) (ix2 (y 1) (y 2))
/-- Batch `b`'s lane maxima after step `k`. -/
def mxB (b : ℕ) : ℕ → Vec F S640x128 .f32
  | 0 => newMax (w1B m c b 0) (hB m c b) (in1 m c (pt (12 * b + 0))) (in5 m c (pt (12 * b + 0))) k0_pay4
  | k + 1 => newMax (w1B m c b (k + 1)) (hB m c b) (in1 m c (pt (12 * b + (k + 1)))) (in5 m c (pt (12 * b + (k + 1)))) (mxB b k)
/-- One over the scales of batch `b`'s activation. -/
def invB (b : ℕ) : Vec F S640x128 .f32 := k0_pay35 (full2 (mxB m c b 5))
/-- The scales of batch `b`'s activation. -/
def repB (b : ℕ) : Vec F S640x128 .f32 := k0_pay34 (full2 (mxB m c b 5))
/-- The weights of step `k` of batch `b`'s second product. -/
def w2B (b k : ℕ) : FVec F S1024x1536 .bf16 := wOut (in6 m c (pt (12 * b + (6 + k)))) (in7 m c (pt (12 * b + (6 + k))))
/-- Batch `b`'s second product after step `k`. -/
def yB (b : ℕ) : ℕ → Vec F S640x1536 .f32
  | 0 => newSum 0 (by decide) (w2B m c b 0) (fB m c b) (invB m c b) k0_pay7
  | k + 1 => newSum ((k + 1) % 6) (Nat.mod_lt _ (by decide)) (w2B m c b (k + 1)) (fB m c b) (invB m c b) (yB b k)
/-- Block `k` of batch `b`'s activation codes. -/
def codesB (b k : ℕ) : Vec F S640x1024 .i8 := newCodes (k % 6) (Nat.mod_lt _ (by decide)) (fB m c b) (invB m c b)
/-- Batch `b`'s result, normalised. -/
def h2B (b : ℕ) : Vec F S640x1536 .f32 :=
  newH2 (yB m c b 5) (repB m c b) (in8 m c (pt (12 * b + 11))) (in2 m c (pt (12 * b + 11))) (in9 m c (pt (12 * b + 11))) (in10 m c (pt (12 * b + 11)))
/-- The codes of batch `b`'s result. -/
def outB (b : ℕ) : Vec F S640x1536 .i8 :=
  newOut (yB m c b 5) (repB m c b) (in8 m c (pt (12 * b + 11))) (in2 m c (pt (12 * b + 11))) (in9 m c (pt (12 * b + 11))) (in10 m c (pt (12 * b + 11)))
/-- The scales of batch `b`'s result put in row `b` of `old`. -/
def osB (b : ℕ) (old : Vec F S2x640 .f32) : Vec F S2x640 .f32 :=
  newOs b (yB m c b 5) (repB m c b) (in8 m c (pt (12 * b + 11))) (in2 m c (pt (12 * b + 11))) (in9 m c (pt (12 * b + 11))) (in10 m c (pt (12 * b + 11))) old
/-- The two rows of the result's scales after point `n`. -/
def osAt (n : ℕ) : Vec F S2x640 .f32 :=
  if n < 11 then k0_pay2 else if n < 23 then osB m c 0 k0_pay2 else osB m c 1 (osB m c 0 k0_pay2)
/-- The two rows of the activation's scales after point `n`. -/
def fsAt (n : ℕ) : Vec F S2x640 .f32 :=
  if n < 6 then k0_pay1 else if n < 18 then newFs 0 (mxB m c 0 5) k0_pay1 else newFs 1 (mxB m c 1 5) (newFs 0 (mxB m c 0 5) k0_pay1)

/-- What the scratch buffers hold after point `n`. -/
structure After (n : ℕ) (s0 : Vec F S640x1536 .bf16) (s1 : Vec F S6x640x1024 .f32) (s2 s3 s4 : Vec F S640x128 .f32) (s5 : Vec F S640x1536 .f32) : Prop where
  hb : s0 = hB m c (n / 12)
  hf : ∀ y : S6x640x1024.Idx, (y 0).val ≤ n % 12 → s1 y = fB m c (n / 12) y
  hmx : n % 12 ≤ 5 → s2 = mxB m c (n / 12) (n % 12)
  hinv : 6 ≤ n % 12 → s3 = invB m c (n / 12)
  hrep : 6 ≤ n % 12 → s4 = repB m c (n / 12)
  hy : 6 ≤ n % 12 → s5 = yB m c (n / 12) (n % 12 - 6)

/-- A step of the second product reads one slab of the activation. -/
theorem slabOf_congr {α : Type} {x x' : S6x640x1024.Idx → α} {j : ℕ} (k : Fin 5) (hj) (h : ∀ y : S6x640x1024.Idx, (y 0).val = j → x y = x' y) :
    slabOf x j k hj = slabOf x' j k hj := by
  funext y
  have hy : (y 0).val < 1 := (y 0).isLt
  refine h _ ?_
  show j + 1 * (y 0).val = j
  omega

theorem newSum_congr {j j' : ℕ} (e : j = j') {hj : j < 6} {hj' : j' < 6} {W W' : FVec F S1024x1536 .bf16} (hW : W = W') {f f' : Vec F S6x640x1024 .f32}
    (h : ∀ y : S6x640x1024.Idx, (y 0).val = j → f y = f' y) {inv inv' : Vec F S640x128 .f32} (hi : inv = inv') {old old' : Vec F S640x1536 .f32} (ho : old = old') :
    newSum j hj W f inv old = newSum j' hj' W' f' inv' old' := by
  subst e hW hi ho
  unfold newSum sumC
  simp only [slabOf_congr _ _ h]

theorem newCodes_congr {j j' : ℕ} (e : j = j') {hj : j < 6} {hj' : j' < 6} {f f' : Vec F S6x640x1024 .f32}
    (h : ∀ y : S6x640x1024.Idx, (y 0).val = j → f y = f' y) {inv inv' : Vec F S640x128 .f32} (hi : inv = inv') :
    newCodes j hj f inv = newCodes j' hj' f' inv' := by
  subst e hi
  unfold newCodes codesC
  simp only [slabOf_congr _ _ h]

variable {m c}
variable {t : Fin cfg0.N} {s0 : Vec F S640x1536 .bf16} {s1 : Vec F S6x640x1024 .f32} {s2 s3 s4 : Vec F S640x128 .f32} {s5 : Vec F S640x1536 .f32}

/-- After the first point of a batch. -/
theorem after_first (h : t.val % 12 = 0) {q : ℕ} (hq : q = 0) :
    After m c t.val (k0_pay3 (full2 (in0 m c t))) (newF q (wIn (in3 m c t) (in4 m c t)) (k0_pay3 (full2 (in0 m c t))) (in1 m c t) (in5 m c t) s1)
      (newMax (wIn (in3 m c t) (in4 m c t)) (k0_pay3 (full2 (in0 m c t))) (in1 m c t) (in5 m c t) k0_pay4) s3 s4 s5 := by
  subst hq
  have e : pt (12 * (t.val / 12)) = t := pt_eq t _ (by omega)
  have e0 : pt (12 * (t.val / 12) + 0) = t := pt_eq t _ (by omega)
  have hH : hB m c (t.val / 12) = k0_pay3 (full2 (in0 m c t)) := by unfold hB; rw [e]
  refine ⟨hH.symm, fun y hy => ?_, fun _ => ?_, fun h => by omega, fun h => by omega, fun h => by omega⟩
  · have hy0 : (y 0).val = 0 := by omega
    unfold newF putSlab fB slabB w1B
    rw [if_pos hy0, hy0, e0, hH]
  · rw [h]
    show _ = newMax (w1B m c (t.val / 12) 0) (hB m c (t.val / 12)) (in1 m c (pt (12 * (t.val / 12) + 0))) (in5 m c (pt (12 * (t.val / 12) + 0))) k0_pay4
    unfold w1B
    rw [e0, hH]

/-- After a later step of the first product. -/
theorem after_in (h : 1 ≤ t.val % 12) (h' : t.val % 12 ≤ 5) {q : ℕ} (hq : q = t.val % 12) (hp : After m c (t.val - 1) s0 s1 s2 s3 s4 s5) :
    After m c t.val s0 (newF q (wIn (in3 m c t) (in4 m c t)) s0 (in1 m c t) (in5 m c t) s1)
      (newMax (wIn (in3 m c t) (in4 m c t)) s0 (in1 m c t) (in5 m c t) s2) s3 s4 s5 := by
  subst hq
  have hd : (t.val - 1) / 12 = t.val / 12 := by omega
  have hm : (t.val - 1) % 12 = t.val % 12 - 1 := by omega
  obtain ⟨p0, p1, p2, -, -, -⟩ := hp
  rw [hd] at p0 p1 p2; rw [hm] at p1 p2
  have e : pt (12 * (t.val / 12) + t.val % 12) = t := pt_eq t _ (by omega)
  refine ⟨p0, fun y hy => ?_, fun _ => ?_, fun h => by omega, fun h => by omega, fun h => by omega⟩
  · unfold newF putSlab
    by_cases hy0 : (y 0).val = t.val % 12
    · unfold fB slabB w1B
      rw [if_pos hy0, hy0, e, p0]
    · rw [if_neg hy0]
      exact p1 y (by omega)
  · obtain ⟨k, hk⟩ : ∃ k, t.val % 12 = k + 1 := ⟨t.val % 12 - 1, by omega⟩
    have p2 := p2 (by omega)
    rw [hk] at p2 e ⊢
    show _ = newMax (w1B m c (t.val / 12) (k + 1)) (hB m c (t.val / 12)) (in1 m c (pt (12 * (t.val / 12) + (k + 1)))) (in5 m c (pt (12 * (t.val / 12) + (k + 1)))) (mxB m c (t.val / 12) k)
    unfold w1B
    rw [e, p0, p2]
    rfl

/-- After the first step of the second product. -/
theorem after_mid (h : t.val % 12 = 6) {q : ℕ} {hq6 : q < 6} (hq : q = 0) (hp : After m c (t.val - 1) s0 s1 s2 s3 s4 s5) :
    After m c t.val s0 s1 s2 (k0_pay35 (full2 s2)) (k0_pay34 (full2 s2)) (newSum q hq6 (wOut (in6 m c t) (in7 m c t)) s1 (k0_pay35 (full2 s2)) k0_pay7)
      ∧ s2 = mxB m c (t.val / 12) 5 := by
  subst hq
  have hd : (t.val - 1) / 12 = t.val / 12 := by omega
  have hm : (t.val - 1) % 12 = 5 := by omega
  obtain ⟨p0, p1, p2, -, -, -⟩ := hp
  rw [hd] at p0 p1 p2; rw [hm] at p1 p2
  have p2 := p2 (by omega)
  have e : pt (12 * (t.val / 12) + (6 + 0)) = t := pt_eq t _ (by omega)
  have hf : ∀ y : S6x640x1024.Idx, s1 y = fB m c (t.val / 12) y := fun y => p1 y (by have : (y 0).val < 6 := (y 0).isLt; omega)
  have hi : k0_pay35 (full2 s2) = invB m c (t.val / 12) := by rw [p2]; rfl
  refine ⟨⟨p0, fun y _ => hf y, fun h => by omega, fun _ => hi, fun _ => by rw [p2]; rfl, fun _ => ?_⟩, p2⟩
  rw [h]
  show _ = newSum 0 (by decide) (w2B m c (t.val / 12) 0) (fB m c (t.val / 12)) (invB m c (t.val / 12)) k0_pay7
  exact newSum_congr rfl (by unfold w2B; rw [e]) (fun y _ => hf y) hi rfl

/-- After a later step of the second product. -/
theorem after_out (h : 7 ≤ t.val % 12) {q : ℕ} {hq6 : q < 6} (hq : q = t.val % 12 - 6) (hp : After m c (t.val - 1) s0 s1 s2 s3 s4 s5) :
    After m c t.val s0 s1 s2 s3 s4 (newSum q hq6 (wOut (in6 m c t) (in7 m c t)) s1 s3 s5) := by
  have hd : (t.val - 1) / 12 = t.val / 12 := by omega
  have hm : (t.val - 1) % 12 = t.val % 12 - 1 := by omega
  obtain ⟨p0, p1, -, p3, p4, p5⟩ := hp
  rw [hd] at p0 p1 p3 p4 p5; rw [hm] at p1 p3 p4 p5
  have p3 := p3 (by omega)
  have p4 := p4 (by omega)
  have p5 := p5 (by omega)
  obtain ⟨k, hk⟩ : ∃ k, t.val % 12 = 7 + k := ⟨t.val % 12 - 7, by omega⟩
  have e : pt (12 * (t.val / 12) + (6 + (k + 1))) = t := pt_eq t _ (by omega)
  have hf : ∀ y : S6x640x1024.Idx, s1 y = fB m c (t.val / 12) y := fun y => p1 y (by have : (y 0).val < 6 := (y 0).isLt; omega)
  refine ⟨p0, fun y _ => hf y, fun h => by omega, fun _ => p3, fun _ => p4, fun _ => ?_⟩
  rw [show t.val % 12 - 6 = k + 1 by omega]
  show _ = newSum ((k + 1) % 6) (Nat.mod_lt _ (by decide)) (w2B m c (t.val / 12) (k + 1)) (fB m c (t.val / 12)) (invB m c (t.val / 12)) (yB m c (t.val / 12) k)
  exact newSum_congr (by omega) (by unfold w2B; rw [e]) (fun y _ => hf y) p3 (by rw [p5]; congr 1; omega)

/-- The codes stored at a step of the second product. -/
theorem codes_of (h : 6 ≤ t.val % 12) {q : ℕ} {hq6 : q < 6} (hq : q = t.val % 12 - 6) (hp : After m c t.val s0 s1 s2 s3 s4 s5) :
    newCodes q hq6 s1 s3 = codesB m c (t.val / 12) (t.val % 12 - 6) :=
  newCodes_congr (by omega) (fun y _ => hp.hf y (by have : (y 0).val < 6 := (y 0).isLt; omega)) (hp.hinv h)

/-- The results stored at the last point of a batch. -/
theorem results_of (h : t.val % 12 = 11) (hp : After m c t.val s0 s1 s2 s3 s4 s5) :
    newH2 s5 s4 (in8 m c t) (in2 m c t) (in9 m c t) (in10 m c t) = h2B m c (t.val / 12)
      ∧ newOut s5 s4 (in8 m c t) (in2 m c t) (in9 m c t) (in10 m c t) = outB m c (t.val / 12)
      ∧ ∀ old, newOs (t.val / 12) s5 s4 (in8 m c t) (in2 m c t) (in9 m c t) (in10 m c t) old = osB m c (t.val / 12) old := by
  have e : pt (12 * (t.val / 12) + 11) = t := pt_eq t _ (by omega)
  have p5 := hp.hy (by omega)
  rw [h] at p5
  have p4 := hp.hrep (by omega)
  unfold h2B outB osB
  rw [e, p5, p4]
  exact ⟨rfl, rfl, fun _ => rfl⟩

/-- The result's scales stay where no batch ends. -/
theorem osAt_stay (h : t.val % 12 ≠ 11) (h0 : t.val ≠ 0) : osAt m c (t.val - 1) = osAt m c t.val := by
  have := lt_of_lt_of_eq t.isLt N_0
  unfold osAt
  simp only [show t.val - 1 < 11 ↔ t.val < 11 by omega, show t.val - 1 < 23 ↔ t.val < 23 by omega]
theorem osAt_step (h : t.val % 12 = 11) : osB m c (t.val / 12) (osAt m c (t.val - 1)) = osAt m c t.val := by
  have := lt_of_lt_of_eq t.isLt N_0
  have : t.val = 11 ∨ t.val = 23 := by omega
  rcases this with h | h <;> rw [h] <;> rfl
/-- The activation's scales stay where no second product begins. -/
theorem fsAt_stay (h : t.val % 12 ≠ 6) (h0 : t.val ≠ 0) : fsAt m c (t.val - 1) = fsAt m c t.val := by
  have := lt_of_lt_of_eq t.isLt N_0
  unfold fsAt
  simp only [show t.val - 1 < 6 ↔ t.val < 6 by omega, show t.val - 1 < 18 ↔ t.val < 18 by omega]
theorem fsAt_step (h : t.val % 12 = 6) : newFs (t.val / 12) (mxB m c (t.val / 12) 5) (fsAt m c (t.val - 1)) = fsAt m c t.val := by
  have := lt_of_lt_of_eq t.isLt N_0
  have : t.val = 6 ∨ t.val = 18 := by omega
  rcases this with h | h <;> rw [h] <;> rfl

end Cert.KernelIdeal.Hand

end
-- ==== Proof.Ideal.ChunkEqs.lean ====
/-
  The body's five chunks are written out five times, cut differently each time; here every writing is shown to be the one the chunk functions use,
  and the loads that follow stores are read as what was stored.
-/
module

public import proofs.«01_k».proof.Proof.Ideal.Chunks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section
variable (w : Vec F S768x1024 .i8) (sc : Vec F S1x12x1024 .f32) (W : FVec F S1536x1024 .bf16) (h : Vec F S128x1536 .bf16) (r : Vec F S128x1 .f32) (b : Vec F S1x1024 .f32)
  (old : Vec F S128x128 .f32)

theorem act0 : k0_pay14 (k0_pay13 w sc h r b) = up (k0_pay27 (k0_pay26 (k0_pay12 w sc) h r) b) := rfl
theorem act1 : k0_pay20 (k0_pay17 W h r b) (k0_pay18 W h r b) = up (k0_pay27 (k0_pay26 W h r) b) := rfl
theorem act2 : k0_pay24 (k0_pay22 W h r b) (Scalar.ofBits .f32 0x3F000000#32 : F .f32) = up (k0_pay27 (k0_pay26 W h r) b) := rfl
theorem act3 : k0_pay28 (k0_pay26 W h r) b = up (k0_pay27 (k0_pay26 W h r) b) := rfl
theorem act4 : k0_pay31 W h (constant S128x1024 .f32 0x00000000#32) r b = up (k0_pay27 (k0_pay26 W h r) b) := rfl
theorem max0 : k0_pay15 (k0_pay13 w sc h r b) old = k0_pay29 (k0_pay26 (k0_pay12 w sc) h r) b old := rfl
theorem max1 : k0_pay21 (k0_pay17 W h r b) (k0_pay18 W h r b) old = k0_pay29 (k0_pay26 W h r) b old := rfl
theorem max2 : k0_pay25 (k0_pay22 W h r b) (Scalar.ofBits .f32 0x3F000000#32 : F .f32) old = k0_pay29 (k0_pay26 W h r) b old := rfl
theorem max4 : k0_pay5 (k0_pay32 W h (constant S128x1024 .f32 0x00000000#32) r b old) = k0_pay29 (k0_pay26 W h r) b old := rfl
end

section
variable (w : Vec F S512x1536 .i8) (sc : Vec F S8x1536 .f32) (W : FVec F S1024x1536 .bf16) (f : Vec F S1x128x1024 .f32) (v : Vec F S128x1 .f32)
  (old : Vec F S128x1536 .f32)
theorem codes0 : k0_pay44 f v = k0_pay48 f v := rfl
theorem codes2 : k0_pay53 (k0_pay50 f v) (Scalar.ofBits .f32 0x42FE0000#32 : F .f32) k0_pay51 = k0_pay48 f v := rfl
theorem codes3 : k0_pay56 f v = k0_pay48 f v := rfl
theorem codes4 : k0_pay9 f v = k0_pay48 f v := rfl
theorem sum0 : k0_pay46 old (k0_pay45 w sc f v) = k0_pay49 (k0_pay42 w sc) f v old := rfl
theorem sum2 : k0_pay54 W (k0_pay50 f v) (Scalar.ofBits .f32 0x42FE0000#32 : F .f32) k0_pay51 old = k0_pay49 W f v old := rfl
theorem sum3 : k0_pay57 W f v old = k0_pay49 W f v old := rfl
theorem sum4 : k0_pay10 W f v old = k0_pay49 W f v old := rfl
end

/-! ## Loads after stores -/

/-- A load of some rows after a store of the whole array reads those rows of what was stored. -/
theorem cov_full {sig : RefSig} {κ : Kind} {sp : Space} {e : EltTy} {Val : EltTy → Type} [∀ e, Nonempty (Val e)] {m n : ℕ} (v : View sig κ sp (⟨2, ![m, n]⟩ : Shape) e)
    (i : ∀ a : Fin 2, (![0, 0] : Fin 2 → ℕ) a + (![m, n] : Fin 2 → ℕ) a ≤ (![m, n] : Fin 2 → ℕ) a) (w : (⟨2, ![m, n]⟩ : Shape).Idx → Val e)
    {off size : Fin 2 → ℕ} (inb : ∀ a, off a + size a ≤ (![m, n] : Fin 2 → ℕ) a) :
    v.readCov [⟨Rect.unit (s := ⟨2, ![m, n]⟩) ![0, 0] ![m, n] i, w⟩] (Rect.unit (s := ⟨2, ![m, n]⟩) off size inb).toLoadRect
      = VecWindow.window (s := ⟨2, ![m, n]⟩) w off size inb := by
  show VecWindow.window (s := ⟨2, ![m, n]⟩) (v.read Val (v.writes Val v.junk _)) off size inb = _
  exact congrArg (fun x => VecWindow.window (s := ⟨2, ![m, n]⟩) x off size inb) (View.read_writes_full v v.junk i w [])

/-- Chunk `k` of five chunks laid under one another. -/
theorem window_byRows {α : Type} {n : ℕ} (g : Fin 5 → (⟨2, ![128, n]⟩ : Shape).Idx → α) (k : Fin 5) : rowsOf (byRows g) k = g k := by
  funext y
  have h0 : (y 0).val < 128 := (y 0).isLt
  have hk : (⟨(128 * k.val + 1 * (y 0).val) / 128, by have := k.isLt; omega⟩ : Fin 5) = k := Fin.ext (by show (128 * k.val + 1 * (y 0).val) / 128 = k.val; omega)
  have hm : (⟨(128 * k.val + 1 * (y 0).val) % 128, Nat.mod_lt _ (by decide)⟩ : Fin 128) = y 0 := Fin.ext (by show (128 * k.val + 1 * (y 0).val) % 128 = (y 0).val; omega)
  have h1 : (⟨0 + 1 * (y 1).val, by have h1 : (y 1).val < n := (y 1).isLt; show 0 + 1 * (y 1).val < n; omega⟩ : Fin n) = y 1 := Fin.ext (by show 0 + 1 * (y 1).val = (y 1).val; omega)
  show g ⟨(128 * k.val + 1 * (y 0).val) / 128, _⟩ (ix2 ⟨(128 * k.val + 1 * (y 0).val) % 128, _⟩ ⟨0 + 1 * (y 1).val, _⟩) = g k y
  rw [hk, hm, h1]
  refine congrArg (g k) (funext fun a => ?_)
  fin_cases a <;> rfl

/-! ## Windows by their chunk -/

theorem rows_0 {α : Type} {n : ℕ} (x : (⟨2, ![640, n]⟩ : Shape).Idx → α) (i : ∀ a : Fin 2, (![0, 0] : Fin 2 → ℕ) a + (![128, n] : Fin 2 → ℕ) a ≤ (![640, n] : Fin 2 → ℕ) a) :
    VecWindow.window (s := ⟨2, ![640, n]⟩) x ![0, 0] ![128, n] i = rowsOf x 0 := rfl
theorem cols_0 {α : Type} (x : S640x128.Idx → α) (i : ∀ a : Fin 2, (![0, 0] : Fin 2 → ℕ) a + (![128, 1] : Fin 2 → ℕ) a ≤ (![640, 128] : Fin 2 → ℕ) a) :
    VecWindow.window (s := S640x128) x ![0, 0] ![128, 1] i = colOf x 0 := rfl
theorem lanes_0 {α : Type} (x : S2x640.Idx → α) (i : ∀ a : Fin 2, (![0, 0] : Fin 2 → ℕ) a + (![2, 128] : Fin 2 → ℕ) a ≤ (![2, 640] : Fin 2 → ℕ) a) :
    VecWindow.window (s := S2x640) x ![0, 0] ![2, 128] i = lanesOf x 0 := rfl
theorem slab_0 {α : Type} (x : S6x640x1024.Idx → α) (m : ℕ) (hm : m < 6) (off : Fin 3 → ℕ) (h : off = ![m, 0, 0]) (i : ∀ a : Fin 3, off a + (![1, 128, 1024] : Fin 3 → ℕ) a ≤ (![6, 640, 1024] : Fin 3 → ℕ) a) :
    VecWindow.window (s := S6x640x1024) x off ![1, 128, 1024] i = slabOf x m 0 (slab_inb m hm 0) := by subst h; rfl
theorem rows_1 {α : Type} {n : ℕ} (x : (⟨2, ![640, n]⟩ : Shape).Idx → α) (i : ∀ a : Fin 2, (![128, 0] : Fin 2 → ℕ) a + (![128, n] : Fin 2 → ℕ) a ≤ (![640, n] : Fin 2 → ℕ) a) :
    VecWindow.window (s := ⟨2, ![640, n]⟩) x ![128, 0] ![128, n] i = rowsOf x 1 := rfl
theorem cols_1 {α : Type} (x : S640x128.Idx → α) (i : ∀ a : Fin 2, (![128, 0] : Fin 2 → ℕ) a + (![128, 1] : Fin 2 → ℕ) a ≤ (![640, 128] : Fin 2 → ℕ) a) :
    VecWindow.window (s := S640x128) x ![128, 0] ![128, 1] i = colOf x 1 := rfl
theorem lanes_1 {α : Type} (x : S2x640.Idx → α) (i : ∀ a : Fin 2, (![0, 128] : Fin 2 → ℕ) a + (![2, 128] : Fin 2 → ℕ) a ≤ (![2, 640] : Fin 2 → ℕ) a) :
    VecWindow.window (s := S2x640) x ![0, 128] ![2, 128] i = lanesOf x 1 := rfl
theorem slab_1 {α : Type} (x : S6x640x1024.Idx → α) (m : ℕ) (hm : m < 6) (off : Fin 3 → ℕ) (h : off = ![m, 128, 0]) (i : ∀ a : Fin 3, off a + (![1, 128, 1024] : Fin 3 → ℕ) a ≤ (![6, 640, 1024] : Fin 3 → ℕ) a) :
    VecWindow.window (s := S6x640x1024) x off ![1, 128, 1024] i = slabOf x m 1 (slab_inb m hm 1) := by subst h; rfl
theorem rows_2 {α : Type} {n : ℕ} (x : (⟨2, ![640, n]⟩ : Shape).Idx → α) (i : ∀ a : Fin 2, (![256, 0] : Fin 2 → ℕ) a + (![128, n] : Fin 2 → ℕ) a ≤ (![640, n] : Fin 2 → ℕ) a) :
    VecWindow.window (s := ⟨2, ![640, n]⟩) x ![256, 0] ![128, n] i = rowsOf x 2 := rfl
theorem cols_2 {α : Type} (x : S640x128.Idx → α) (i : ∀ a : Fin 2, (![256, 0] : Fin 2 → ℕ) a + (![128, 1] : Fin 2 → ℕ) a ≤ (![640, 128] : Fin 2 → ℕ) a) :
    VecWindow.window (s := S640x128) x ![256, 0] ![128, 1] i = colOf x 2 := rfl
theorem lanes_2 {α : Type} (x : S2x640.Idx → α) (i : ∀ a : Fin 2, (![0, 256] : Fin 2 → ℕ) a + (![2, 128] : Fin 2 → ℕ) a ≤ (![2, 640] : Fin 2 → ℕ) a) :
    VecWindow.window (s := S2x640) x ![0, 256] ![2, 128] i = lanesOf x 2 := rfl
theorem slab_2 {α : Type} (x : S6x640x1024.Idx → α) (m : ℕ) (hm : m < 6) (off : Fin 3 → ℕ) (h : off = ![m, 256, 0]) (i : ∀ a : Fin 3, off a + (![1, 128, 1024] : Fin 3 → ℕ) a ≤ (![6, 640, 1024] : Fin 3 → ℕ) a) :
    VecWindow.window (s := S6x640x1024) x off ![1, 128, 1024] i = slabOf x m 2 (slab_inb m hm 2) := by subst h; rfl
theorem rows_3 {α : Type} {n : ℕ} (x : (⟨2, ![640, n]⟩ : Shape).Idx → α) (i : ∀ a : Fin 2, (![384, 0] : Fin 2 → ℕ) a + (![128, n] : Fin 2 → ℕ) a ≤ (![640, n] : Fin 2 → ℕ) a) :
    VecWindow.window (s := ⟨2, ![640, n]⟩) x ![384, 0] ![128, n] i = rowsOf x 3 := rfl
theorem cols_3 {α : Type} (x : S640x128.Idx → α) (i : ∀ a : Fin 2, (![384, 0] : Fin 2 → ℕ) a + (![128, 1] : Fin 2 → ℕ) a ≤ (![640, 128] : Fin 2 → ℕ) a) :
    VecWindow.window (s := S640x128) x ![384, 0] ![128, 1] i = colOf x 3 := rfl
theorem lanes_3 {α : Type} (x : S2x640.Idx → α) (i : ∀ a : Fin 2, (![0, 384] : Fin 2 → ℕ) a + (![2, 128] : Fin 2 → ℕ) a ≤ (![2, 640] : Fin 2 → ℕ) a) :
    VecWindow.window (s := S2x640) x ![0, 384] ![2, 128] i = lanesOf x 3 := rfl
theorem slab_3 {α : Type} (x : S6x640x1024.Idx → α) (m : ℕ) (hm : m < 6) (off : Fin 3 → ℕ) (h : off = ![m, 384, 0]) (i : ∀ a : Fin 3, off a + (![1, 128, 1024] : Fin 3 → ℕ) a ≤ (![6, 640, 1024] : Fin 3 → ℕ) a) :
    VecWindow.window (s := S6x640x1024) x off ![1, 128, 1024] i = slabOf x m 3 (slab_inb m hm 3) := by subst h; rfl
theorem rows_4 {α : Type} {n : ℕ} (x : (⟨2, ![640, n]⟩ : Shape).Idx → α) (i : ∀ a : Fin 2, (![512, 0] : Fin 2 → ℕ) a + (![128, n] : Fin 2 → ℕ) a ≤ (![640, n] : Fin 2 → ℕ) a) :
    VecWindow.window (s := ⟨2, ![640, n]⟩) x ![512, 0] ![128, n] i = rowsOf x 4 := rfl
theorem cols_4 {α : Type} (x : S640x128.Idx → α) (i : ∀ a : Fin 2, (![512, 0] : Fin 2 → ℕ) a + (![128, 1] : Fin 2 → ℕ) a ≤ (![640, 128] : Fin 2 → ℕ) a) :
    VecWindow.window (s := S640x128) x ![512, 0] ![128, 1] i = colOf x 4 := rfl
theorem lanes_4 {α : Type} (x : S2x640.Idx → α) (i : ∀ a : Fin 2, (![0, 512] : Fin 2 → ℕ) a + (![2, 128] : Fin 2 → ℕ) a ≤ (![2, 640] : Fin 2 → ℕ) a) :
    VecWindow.window (s := S2x640) x ![0, 512] ![2, 128] i = lanesOf x 4 := rfl
theorem slab_4 {α : Type} (x : S6x640x1024.Idx → α) (m : ℕ) (hm : m < 6) (off : Fin 3 → ℕ) (h : off = ![m, 512, 0]) (i : ∀ a : Fin 3, off a + (![1, 128, 1024] : Fin 3 → ℕ) a ≤ (![6, 640, 1024] : Fin 3 → ℕ) a) :
    VecWindow.window (s := S6x640x1024) x off ![1, 128, 1024] i = slabOf x m 4 (slab_inb m hm 4) := by subst h; rfl
theorem win_full2 {α : Type} {m n : ℕ} (x : (⟨2, ![m, n]⟩ : Shape).Idx → α) (i : ∀ a : Fin 2, (![0, 0] : Fin 2 → ℕ) a + (![m, n] : Fin 2 → ℕ) a ≤ (![m, n] : Fin 2 → ℕ) a) :
    VecWindow.window (s := ⟨2, ![m, n]⟩) x ![0, 0] ![m, n] i = full2 x := rfl
theorem win_full3 {α : Type} {l m n : ℕ} (x : (⟨3, ![l, m, n]⟩ : Shape).Idx → α) (i : ∀ a : Fin 3, (![0, 0, 0] : Fin 3 → ℕ) a + (![l, m, n] : Fin 3 → ℕ) a ≤ (![l, m, n] : Fin 3 → ℕ) a) :
    VecWindow.window (s := ⟨3, ![l, m, n]⟩) x ![0, 0, 0] ![l, m, n] i = full3 x := rfl

/-! ## The closing chunk's writings -/

section
variable (y : Vec F S128x1536 .f32) (r : Vec F S128x1 .f32) (b : Vec F S1x1536 .f32) (h : Vec F S128x1536 .f32) (g be : Vec F S1x1536 .f32)
  (a : BitVec 32) (old : Vec F S2x128 .f32)
theorem norm0 : k0_pay58 y r b h g be = k0_pay64 (k0_pay63 y r) b h g be := rfl
theorem norm2 : k0_pay69 (k0_pay68 y r b) h g be = k0_pay64 (k0_pay63 y r) b h g be := rfl
theorem norm3 : k0_pay75 (k0_pay74 y r b h) g be = k0_pay64 (k0_pay63 y r) b h g be := rfl
theorem norm4 : k0_pay81 g be (k0_pay79 y r b h) (k0_pay80 y r b h) = k0_pay64 (k0_pay63 y r) b h g be := rfl
theorem scale0 : k0_pay60 (k0_pay59 y r b h g be) (Scalar.ofBits .f32 0x00000000#32 : F .f32) = k0_pay65 (k0_pay63 y r) b h g be := rfl
theorem scale2 : k0_pay70 (k0_pay68 y r b) h g be = k0_pay65 (k0_pay63 y r) b h g be := rfl
theorem scale3 : k0_pay76 (k0_pay74 y r b h) g be = k0_pay65 (k0_pay63 y r) b h g be := rfl
theorem scale4 : k0_pay82 g be (k0_pay79 y r b h) (k0_pay80 y r b h) = k0_pay65 (k0_pay63 y r) b h g be := rfl
theorem out0 : k0_pay61 (k0_pay64 (k0_pay63 y r) b h g be) (k0_pay59 y r b h g be) (Scalar.ofBits .f32 0x00000000#32 : F .f32)
    = k0_pay66 (k0_pay64 (k0_pay63 y r) b h g be) (k0_pay65 (k0_pay63 y r) b h g be) := rfl
theorem out2 : k0_pay72 (k0_pay71 (k0_pay68 y r b) h g be) (Scalar.ofBits .f32 0xC2FE0000#32 : F .f32) (Scalar.ofBits .f32 0x42FE0000#32 : F .f32)
    = k0_pay66 (k0_pay64 (k0_pay63 y r) b h g be) (k0_pay65 (k0_pay63 y r) b h g be) := rfl
theorem out3 : k0_pay77 (k0_pay74 y r b h) g be = k0_pay66 (k0_pay64 (k0_pay63 y r) b h g be) (k0_pay65 (k0_pay63 y r) b h g be) := rfl
theorem out4 : k0_pay83 g be (k0_pay79 y r b h) (k0_pay80 y r b h) = k0_pay66 (k0_pay64 (k0_pay63 y r) b h g be) (k0_pay65 (k0_pay63 y r) b h g be) := rfl
theorem os0 : k0_pay62 a (k0_pay59 y r b h g be) (Scalar.ofBits .f32 0x00000000#32 : F .f32) old = k0_pay67 a (k0_pay65 (k0_pay63 y r) b h g be) old := rfl
theorem os2 (s : FVec F S128x1 .f32) : k0_pay73 a s old = k0_pay67 a s old := rfl
theorem os3 (s : FVec F S128x1 .f32) : k0_pay78 a s old = k0_pay67 a s old := rfl
theorem os4 : k0_pay11 (k0_pay84 g be (k0_pay79 y r b h) (k0_pay80 y r b h)) (k0_pay85 a) (iota .tc S128x128 32 [0] iota_S128x128_d0_w32) (iota .tc S128x128 32 [1] iota_S128x128_d1_w32) old
    = k0_pay67 a (k0_pay65 (k0_pay63 y r) b h g be) old := rfl
end

/-! ## A chunk loaded from under other chunks -/

section
variable {sig : RefSig} {κ : Kind} {sp : Space} {e : EltTy} {Val : EltTy → Type} [∀ e, Nonempty (Val e)] {n : ℕ} (v : View sig κ sp (⟨2, ![640, n]⟩ : Shape) e)
  (L : List (View.Piece Val (⟨2, ![640, n]⟩ : Shape) e))

theorem cov_hit {o : ℕ} (i i' : ∀ a : Fin 2, (![o, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![o, 0] ![128, n] i, w⟩ :: L) (Rect.unit (s := ⟨2, ![640, n]⟩) ![o, 0] ![128, n] i').toLoadRect = w := by
  funext y
  exact View.read_writes_cons_rows_of_mem v v.junk i w L _ y rfl (by show o + 1 * (y 0).val = o + (y 0).val; omega) (by show 0 + 1 * (y 1).val = (y 1).val; omega)

theorem cov_skip {o o' : ℕ} (h : o' + 128 ≤ o ∨ o + 128 ≤ o') (i : ∀ a : Fin 2, (![o, 0] : Fin 2 → ℕ) a + (![128, n] : Fin 2 → ℕ) a ≤ (![640, n] : Fin 2 → ℕ) a)
    (i' : ∀ a : Fin 2, (![o', 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![o, 0] ![128, n] i, w⟩ :: L) (Rect.unit (s := ⟨2, ![640, n]⟩) ![o', 0] ![128, n] i').toLoadRect
      = v.readCov L (Rect.unit (s := ⟨2, ![640, n]⟩) ![o', 0] ![128, n] i').toLoadRect := by
  funext y
  have hy : (y 0).val < 128 := (y 0).isLt
  exact View.read_writes_cons_rows_of_not_mem v v.junk i w L _ rfl rfl
    (h.elim (fun h => by left; show o' + 1 * (y 0).val < o; omega) (fun h => by right; show o + 128 ≤ o' + 1 * (y 0).val; omega))

theorem cov_skip_0_1 (i : ∀ a : Fin 2, (![0, 0] : Fin 2 → ℕ) a + (![128, n] : Fin 2 → ℕ) a ≤ (![640, n] : Fin 2 → ℕ) a)
    (i' : ∀ a : Fin 2, (![128, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![0, 0] ![128, n] i, w⟩ :: L) (Rect.unit (s := ⟨2, ![640, n]⟩) ![128, 0] ![128, n] i').toLoadRect
      = v.readCov L (Rect.unit (s := ⟨2, ![640, n]⟩) ![128, 0] ![128, n] i').toLoadRect := cov_skip v L (by decide) i i' w
theorem cov_skip_0_2 (i : ∀ a : Fin 2, (![0, 0] : Fin 2 → ℕ) a + (![128, n] : Fin 2 → ℕ) a ≤ (![640, n] : Fin 2 → ℕ) a)
    (i' : ∀ a : Fin 2, (![256, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![0, 0] ![128, n] i, w⟩ :: L) (Rect.unit (s := ⟨2, ![640, n]⟩) ![256, 0] ![128, n] i').toLoadRect
      = v.readCov L (Rect.unit (s := ⟨2, ![640, n]⟩) ![256, 0] ![128, n] i').toLoadRect := cov_skip v L (by decide) i i' w
theorem cov_skip_0_3 (i : ∀ a : Fin 2, (![0, 0] : Fin 2 → ℕ) a + (![128, n] : Fin 2 → ℕ) a ≤ (![640, n] : Fin 2 → ℕ) a)
    (i' : ∀ a : Fin 2, (![384, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![0, 0] ![128, n] i, w⟩ :: L) (Rect.unit (s := ⟨2, ![640, n]⟩) ![384, 0] ![128, n] i').toLoadRect
      = v.readCov L (Rect.unit (s := ⟨2, ![640, n]⟩) ![384, 0] ![128, n] i').toLoadRect := cov_skip v L (by decide) i i' w
theorem cov_skip_0_4 (i : ∀ a : Fin 2, (![0, 0] : Fin 2 → ℕ) a + (![128, n] : Fin 2 → ℕ) a ≤ (![640, n] : Fin 2 → ℕ) a)
    (i' : ∀ a : Fin 2, (![512, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![0, 0] ![128, n] i, w⟩ :: L) (Rect.unit (s := ⟨2, ![640, n]⟩) ![512, 0] ![128, n] i').toLoadRect
      = v.readCov L (Rect.unit (s := ⟨2, ![640, n]⟩) ![512, 0] ![128, n] i').toLoadRect := cov_skip v L (by decide) i i' w
theorem cov_skip_1_0 (i : ∀ a : Fin 2, (![128, 0] : Fin 2 → ℕ) a + (![128, n] : Fin 2 → ℕ) a ≤ (![640, n] : Fin 2 → ℕ) a)
    (i' : ∀ a : Fin 2, (![0, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![128, 0] ![128, n] i, w⟩ :: L) (Rect.unit (s := ⟨2, ![640, n]⟩) ![0, 0] ![128, n] i').toLoadRect
      = v.readCov L (Rect.unit (s := ⟨2, ![640, n]⟩) ![0, 0] ![128, n] i').toLoadRect := cov_skip v L (by decide) i i' w
theorem cov_skip_1_2 (i : ∀ a : Fin 2, (![128, 0] : Fin 2 → ℕ) a + (![128, n] : Fin 2 → ℕ) a ≤ (![640, n] : Fin 2 → ℕ) a)
    (i' : ∀ a : Fin 2, (![256, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![128, 0] ![128, n] i, w⟩ :: L) (Rect.unit (s := ⟨2, ![640, n]⟩) ![256, 0] ![128, n] i').toLoadRect
      = v.readCov L (Rect.unit (s := ⟨2, ![640, n]⟩) ![256, 0] ![128, n] i').toLoadRect := cov_skip v L (by decide) i i' w
theorem cov_skip_1_3 (i : ∀ a : Fin 2, (![128, 0] : Fin 2 → ℕ) a + (![128, n] : Fin 2 → ℕ) a ≤ (![640, n] : Fin 2 → ℕ) a)
    (i' : ∀ a : Fin 2, (![384, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![128, 0] ![128, n] i, w⟩ :: L) (Rect.unit (s := ⟨2, ![640, n]⟩) ![384, 0] ![128, n] i').toLoadRect
      = v.readCov L (Rect.unit (s := ⟨2, ![640, n]⟩) ![384, 0] ![128, n] i').toLoadRect := cov_skip v L (by decide) i i' w
theorem cov_skip_1_4 (i : ∀ a : Fin 2, (![128, 0] : Fin 2 → ℕ) a + (![128, n] : Fin 2 → ℕ) a ≤ (![640, n] : Fin 2 → ℕ) a)
    (i' : ∀ a : Fin 2, (![512, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![128, 0] ![128, n] i, w⟩ :: L) (Rect.unit (s := ⟨2, ![640, n]⟩) ![512, 0] ![128, n] i').toLoadRect
      = v.readCov L (Rect.unit (s := ⟨2, ![640, n]⟩) ![512, 0] ![128, n] i').toLoadRect := cov_skip v L (by decide) i i' w
theorem cov_skip_2_0 (i : ∀ a : Fin 2, (![256, 0] : Fin 2 → ℕ) a + (![128, n] : Fin 2 → ℕ) a ≤ (![640, n] : Fin 2 → ℕ) a)
    (i' : ∀ a : Fin 2, (![0, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![256, 0] ![128, n] i, w⟩ :: L) (Rect.unit (s := ⟨2, ![640, n]⟩) ![0, 0] ![128, n] i').toLoadRect
      = v.readCov L (Rect.unit (s := ⟨2, ![640, n]⟩) ![0, 0] ![128, n] i').toLoadRect := cov_skip v L (by decide) i i' w
theorem cov_skip_2_1 (i : ∀ a : Fin 2, (![256, 0] : Fin 2 → ℕ) a + (![128, n] : Fin 2 → ℕ) a ≤ (![640, n] : Fin 2 → ℕ) a)
    (i' : ∀ a : Fin 2, (![128, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![256, 0] ![128, n] i, w⟩ :: L) (Rect.unit (s := ⟨2, ![640, n]⟩) ![128, 0] ![128, n] i').toLoadRect
      = v.readCov L (Rect.unit (s := ⟨2, ![640, n]⟩) ![128, 0] ![128, n] i').toLoadRect := cov_skip v L (by decide) i i' w
theorem cov_skip_2_3 (i : ∀ a : Fin 2, (![256, 0] : Fin 2 → ℕ) a + (![128, n] : Fin 2 → ℕ) a ≤ (![640, n] : Fin 2 → ℕ) a)
    (i' : ∀ a : Fin 2, (![384, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![256, 0] ![128, n] i, w⟩ :: L) (Rect.unit (s := ⟨2, ![640, n]⟩) ![384, 0] ![128, n] i').toLoadRect
      = v.readCov L (Rect.unit (s := ⟨2, ![640, n]⟩) ![384, 0] ![128, n] i').toLoadRect := cov_skip v L (by decide) i i' w
theorem cov_skip_2_4 (i : ∀ a : Fin 2, (![256, 0] : Fin 2 → ℕ) a + (![128, n] : Fin 2 → ℕ) a ≤ (![640, n] : Fin 2 → ℕ) a)
    (i' : ∀ a : Fin 2, (![512, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![256, 0] ![128, n] i, w⟩ :: L) (Rect.unit (s := ⟨2, ![640, n]⟩) ![512, 0] ![128, n] i').toLoadRect
      = v.readCov L (Rect.unit (s := ⟨2, ![640, n]⟩) ![512, 0] ![128, n] i').toLoadRect := cov_skip v L (by decide) i i' w
theorem cov_skip_3_0 (i : ∀ a : Fin 2, (![384, 0] : Fin 2 → ℕ) a + (![128, n] : Fin 2 → ℕ) a ≤ (![640, n] : Fin 2 → ℕ) a)
    (i' : ∀ a : Fin 2, (![0, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![384, 0] ![128, n] i, w⟩ :: L) (Rect.unit (s := ⟨2, ![640, n]⟩) ![0, 0] ![128, n] i').toLoadRect
      = v.readCov L (Rect.unit (s := ⟨2, ![640, n]⟩) ![0, 0] ![128, n] i').toLoadRect := cov_skip v L (by decide) i i' w
theorem cov_skip_3_1 (i : ∀ a : Fin 2, (![384, 0] : Fin 2 → ℕ) a + (![128, n] : Fin 2 → ℕ) a ≤ (![640, n] : Fin 2 → ℕ) a)
    (i' : ∀ a : Fin 2, (![128, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![384, 0] ![128, n] i, w⟩ :: L) (Rect.unit (s := ⟨2, ![640, n]⟩) ![128, 0] ![128, n] i').toLoadRect
      = v.readCov L (Rect.unit (s := ⟨2, ![640, n]⟩) ![128, 0] ![128, n] i').toLoadRect := cov_skip v L (by decide) i i' w
theorem cov_skip_3_2 (i : ∀ a : Fin 2, (![384, 0] : Fin 2 → ℕ) a + (![128, n] : Fin 2 → ℕ) a ≤ (![640, n] : Fin 2 → ℕ) a)
    (i' : ∀ a : Fin 2, (![256, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![384, 0] ![128, n] i, w⟩ :: L) (Rect.unit (s := ⟨2, ![640, n]⟩) ![256, 0] ![128, n] i').toLoadRect
      = v.readCov L (Rect.unit (s := ⟨2, ![640, n]⟩) ![256, 0] ![128, n] i').toLoadRect := cov_skip v L (by decide) i i' w
theorem cov_skip_3_4 (i : ∀ a : Fin 2, (![384, 0] : Fin 2 → ℕ) a + (![128, n] : Fin 2 → ℕ) a ≤ (![640, n] : Fin 2 → ℕ) a)
    (i' : ∀ a : Fin 2, (![512, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![384, 0] ![128, n] i, w⟩ :: L) (Rect.unit (s := ⟨2, ![640, n]⟩) ![512, 0] ![128, n] i').toLoadRect
      = v.readCov L (Rect.unit (s := ⟨2, ![640, n]⟩) ![512, 0] ![128, n] i').toLoadRect := cov_skip v L (by decide) i i' w
theorem cov_skip_4_0 (i : ∀ a : Fin 2, (![512, 0] : Fin 2 → ℕ) a + (![128, n] : Fin 2 → ℕ) a ≤ (![640, n] : Fin 2 → ℕ) a)
    (i' : ∀ a : Fin 2, (![0, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![512, 0] ![128, n] i, w⟩ :: L) (Rect.unit (s := ⟨2, ![640, n]⟩) ![0, 0] ![128, n] i').toLoadRect
      = v.readCov L (Rect.unit (s := ⟨2, ![640, n]⟩) ![0, 0] ![128, n] i').toLoadRect := cov_skip v L (by decide) i i' w
theorem cov_skip_4_1 (i : ∀ a : Fin 2, (![512, 0] : Fin 2 → ℕ) a + (![128, n] : Fin 2 → ℕ) a ≤ (![640, n] : Fin 2 → ℕ) a)
    (i' : ∀ a : Fin 2, (![128, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![512, 0] ![128, n] i, w⟩ :: L) (Rect.unit (s := ⟨2, ![640, n]⟩) ![128, 0] ![128, n] i').toLoadRect
      = v.readCov L (Rect.unit (s := ⟨2, ![640, n]⟩) ![128, 0] ![128, n] i').toLoadRect := cov_skip v L (by decide) i i' w
theorem cov_skip_4_2 (i : ∀ a : Fin 2, (![512, 0] : Fin 2 → ℕ) a + (![128, n] : Fin 2 → ℕ) a ≤ (![640, n] : Fin 2 → ℕ) a)
    (i' : ∀ a : Fin 2, (![256, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![512, 0] ![128, n] i, w⟩ :: L) (Rect.unit (s := ⟨2, ![640, n]⟩) ![256, 0] ![128, n] i').toLoadRect
      = v.readCov L (Rect.unit (s := ⟨2, ![640, n]⟩) ![256, 0] ![128, n] i').toLoadRect := cov_skip v L (by decide) i i' w
theorem cov_skip_4_3 (i : ∀ a : Fin 2, (![512, 0] : Fin 2 → ℕ) a + (![128, n] : Fin 2 → ℕ) a ≤ (![640, n] : Fin 2 → ℕ) a)
    (i' : ∀ a : Fin 2, (![384, 0] : Fin 2 → ℕ) a + (![128, n] : Fin 2 → ℕ) a ≤ (![640, n] : Fin 2 → ℕ) a) (w : (⟨2, ![128, n]⟩ : Shape).Idx → Val e) :
    v.readCov (⟨Rect.unit (s := ⟨2, ![640, n]⟩) ![512, 0] ![128, n] i, w⟩ :: L) (Rect.unit (s := ⟨2, ![640, n]⟩) ![384, 0] ![128, n] i').toLoadRect
      = v.readCov L (Rect.unit (s := ⟨2, ![640, n]⟩) ![384, 0] ![128, n] i').toLoadRect := cov_skip v L (by decide) i i' w
end

/-! ## A chunk of the running sum -/

section
variable (m : ℕ) (hm : m < 6) (W : FVec F S1024x1536 .bf16) (x : Vec F S6x640x1024 .f32) (inv : Vec F S640x128 .f32) (old : Vec F S640x1536 .f32)
theorem sum_chunk_0 : k0_pay49 W (slabOf x m 0 (slab_inb m hm 0)) (colOf inv 0) (rowsOf old 0) = rowsOf (newSum m hm W x inv old) 0 :=
  (window_byRows (sumC m hm W x inv old) 0).symm
theorem sum_chunk_1 : k0_pay49 W (slabOf x m 1 (slab_inb m hm 1)) (colOf inv 1) (rowsOf old 1) = rowsOf (newSum m hm W x inv old) 1 :=
  (window_byRows (sumC m hm W x inv old) 1).symm
theorem sum_chunk_2 : k0_pay49 W (slabOf x m 2 (slab_inb m hm 2)) (colOf inv 2) (rowsOf old 2) = rowsOf (newSum m hm W x inv old) 2 :=
  (window_byRows (sumC m hm W x inv old) 2).symm
theorem sum_chunk_3 : k0_pay49 W (slabOf x m 3 (slab_inb m hm 3)) (colOf inv 3) (rowsOf old 3) = rowsOf (newSum m hm W x inv old) 3 :=
  (window_byRows (sumC m hm W x inv old) 3).symm
theorem sum_chunk_4 : k0_pay49 W (slabOf x m 4 (slab_inb m hm 4)) (colOf inv 4) (rowsOf old 4) = rowsOf (newSum m hm W x inv old) 4 :=
  (window_byRows (sumC m hm W x inv old) 4).symm
end

end Cert.KernelIdeal.Hand

end
-- ==== Proof.Ideal.Close.lean ====
/-
  Each buffer a grid point stores in five chunks, read back as one vector.
-/
module

public import proofs.«01_k».proof.Proof.Ideal.ChunkEqs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

theorem close_f {sp : Space} (v : View sig .tc sp S6x640x1024 .f32) (f : v.ty.Contents (Elt F)) (m : ℕ) (W : FVec F S1536x1024 .bf16) (hb : Vec F S640x1536 .bf16) (r : Vec F S640x128 .f32) (b : Vec F S1x1024 .f32) (o0 o1 o2 o3 o4 : Fin 3 → ℕ)
    (i0 : ∀ a : Fin 3, o0 a + (![1, 128, 1024] : Fin 3 → ℕ) a ≤ (![6, 640, 1024] : Fin 3 → ℕ) a)
    (i1 : ∀ a : Fin 3, o1 a + (![1, 128, 1024] : Fin 3 → ℕ) a ≤ (![6, 640, 1024] : Fin 3 → ℕ) a)
    (i2 : ∀ a : Fin 3, o2 a + (![1, 128, 1024] : Fin 3 → ℕ) a ≤ (![6, 640, 1024] : Fin 3 → ℕ) a)
    (i3 : ∀ a : Fin 3, o3 a + (![1, 128, 1024] : Fin 3 → ℕ) a ≤ (![6, 640, 1024] : Fin 3 → ℕ) a)
    (i4 : ∀ a : Fin 3, o4 a + (![1, 128, 1024] : Fin 3 → ℕ) a ≤ (![6, 640, 1024] : Fin 3 → ℕ) a)
    (h0 : o0 = ![m, 0, 0]) (h1 : o1 = ![m, 128, 0]) (h2 : o2 = ![m, 256, 0]) (h3 : o3 = ![m, 384, 0]) (h4 : o4 = ![m, 512, 0]) :
    v.read (Elt F) (v.writes (Elt F) f [⟨Rect.unit (s := S6x640x1024) o4 ![1, 128, 1024] i4, up (k0_pay27 (k0_pay26 W (rowsOf hb 4) (colOf r 4)) (full2 b))⟩, ⟨Rect.unit (s := S6x640x1024) o3 ![1, 128, 1024] i3, up (k0_pay27 (k0_pay26 W (rowsOf hb 3) (colOf r 3)) (full2 b))⟩, ⟨Rect.unit (s := S6x640x1024) o2 ![1, 128, 1024] i2, up (k0_pay27 (k0_pay26 W (rowsOf hb 2) (colOf r 2)) (full2 b))⟩, ⟨Rect.unit (s := S6x640x1024) o1 ![1, 128, 1024] i1, up (k0_pay27 (k0_pay26 W (rowsOf hb 1) (colOf r 1)) (full2 b))⟩, ⟨Rect.unit (s := S6x640x1024) o0 ![1, 128, 1024] i0, up (k0_pay27 (k0_pay26 W (rowsOf hb 0) (colOf r 0)) (full2 b))⟩])
      = newF m W hb r b (v.read (Elt F) f) :=
  read_slab5 v f m (actC W hb r b) o0 o1 o2 o3 o4 i0 i1 i2 i3 i4 h0 h1 h2 h3 h4

theorem close_max {sp : Space} (v : View sig .tc sp S640x128 .f32) (f : v.ty.Contents (Elt F)) (L : List (View.Piece (Elt F) S640x128 .f32)) (W : FVec F S1536x1024 .bf16) (hb : Vec F S640x1536 .bf16) (r : Vec F S640x128 .f32) (b : Vec F S1x1024 .f32) (old : Vec F S640x128 .f32)
    (i0 : ∀ a : Fin 2, (![0, 0] : Fin 2 → ℕ) a + (![128, 128] : Fin 2 → ℕ) a ≤ (![640, 128] : Fin 2 → ℕ) a)
    (i1 : ∀ a : Fin 2, (![128, 0] : Fin 2 → ℕ) a + (![128, 128] : Fin 2 → ℕ) a ≤ (![640, 128] : Fin 2 → ℕ) a)
    (i2 : ∀ a : Fin 2, (![256, 0] : Fin 2 → ℕ) a + (![128, 128] : Fin 2 → ℕ) a ≤ (![640, 128] : Fin 2 → ℕ) a)
    (i3 : ∀ a : Fin 2, (![384, 0] : Fin 2 → ℕ) a + (![128, 128] : Fin 2 → ℕ) a ≤ (![640, 128] : Fin 2 → ℕ) a)
    (i4 : ∀ a : Fin 2, (![512, 0] : Fin 2 → ℕ) a + (![128, 128] : Fin 2 → ℕ) a ≤ (![640, 128] : Fin 2 → ℕ) a) :
    v.read (Elt F) (v.writes (Elt F) f (⟨Rect.unit (s := S640x128) ![512, 0] ![128, 128] i4, k0_pay29 (k0_pay26 W (rowsOf hb 4) (colOf r 4)) (full2 b) (rowsOf old 4)⟩ :: ⟨Rect.unit (s := S640x128) ![384, 0] ![128, 128] i3, k0_pay29 (k0_pay26 W (rowsOf hb 3) (colOf r 3)) (full2 b) (rowsOf old 3)⟩ :: ⟨Rect.unit (s := S640x128) ![256, 0] ![128, 128] i2, k0_pay29 (k0_pay26 W (rowsOf hb 2) (colOf r 2)) (full2 b) (rowsOf old 2)⟩ :: ⟨Rect.unit (s := S640x128) ![128, 0] ![128, 128] i1, k0_pay29 (k0_pay26 W (rowsOf hb 1) (colOf r 1)) (full2 b) (rowsOf old 1)⟩ :: ⟨Rect.unit (s := S640x128) ![0, 0] ![128, 128] i0, k0_pay29 (k0_pay26 W (rowsOf hb 0) (colOf r 0)) (full2 b) (rowsOf old 0)⟩ :: L)) = newMax W hb r b old :=
  read_rows5 v f L (maxC W hb r b old) i0 i1 i2 i3 i4

theorem close_codes {sp : Space} (v : View sig .tc sp S640x1024 .i8) (f : v.ty.Contents (Elt F)) (L : List (View.Piece (Elt F) S640x1024 .i8)) (m : ℕ) (hm : m < 6) (x : Vec F S6x640x1024 .f32) (inv : Vec F S640x128 .f32)
    (i0 : ∀ a : Fin 2, (![0, 0] : Fin 2 → ℕ) a + (![128, 1024] : Fin 2 → ℕ) a ≤ (![640, 1024] : Fin 2 → ℕ) a)
    (i1 : ∀ a : Fin 2, (![128, 0] : Fin 2 → ℕ) a + (![128, 1024] : Fin 2 → ℕ) a ≤ (![640, 1024] : Fin 2 → ℕ) a)
    (i2 : ∀ a : Fin 2, (![256, 0] : Fin 2 → ℕ) a + (![128, 1024] : Fin 2 → ℕ) a ≤ (![640, 1024] : Fin 2 → ℕ) a)
    (i3 : ∀ a : Fin 2, (![384, 0] : Fin 2 → ℕ) a + (![128, 1024] : Fin 2 → ℕ) a ≤ (![640, 1024] : Fin 2 → ℕ) a)
    (i4 : ∀ a : Fin 2, (![512, 0] : Fin 2 → ℕ) a + (![128, 1024] : Fin 2 → ℕ) a ≤ (![640, 1024] : Fin 2 → ℕ) a) :
    v.read (Elt F) (v.writes (Elt F) f (⟨Rect.unit (s := S640x1024) ![512, 0] ![128, 1024] i4, k0_pay48 (slabOf x m 4 (slab_inb m hm 4)) (colOf inv 4)⟩ :: ⟨Rect.unit (s := S640x1024) ![384, 0] ![128, 1024] i3, k0_pay48 (slabOf x m 3 (slab_inb m hm 3)) (colOf inv 3)⟩ :: ⟨Rect.unit (s := S640x1024) ![256, 0] ![128, 1024] i2, k0_pay48 (slabOf x m 2 (slab_inb m hm 2)) (colOf inv 2)⟩ :: ⟨Rect.unit (s := S640x1024) ![128, 0] ![128, 1024] i1, k0_pay48 (slabOf x m 1 (slab_inb m hm 1)) (colOf inv 1)⟩ :: ⟨Rect.unit (s := S640x1024) ![0, 0] ![128, 1024] i0, k0_pay48 (slabOf x m 0 (slab_inb m hm 0)) (colOf inv 0)⟩ :: L)) = newCodes m hm x inv :=
  read_rows5 v f L (codesC m hm x inv) i0 i1 i2 i3 i4

theorem close_sum {sp : Space} (v : View sig .tc sp S640x1536 .f32) (f : v.ty.Contents (Elt F)) (L : List (View.Piece (Elt F) S640x1536 .f32)) (W : FVec F S1024x1536 .bf16) (m : ℕ) (hm : m < 6) (x : Vec F S6x640x1024 .f32) (inv : Vec F S640x128 .f32) (old : Vec F S640x1536 .f32)
    (i0 : ∀ a : Fin 2, (![0, 0] : Fin 2 → ℕ) a + (![128, 1536] : Fin 2 → ℕ) a ≤ (![640, 1536] : Fin 2 → ℕ) a)
    (i1 : ∀ a : Fin 2, (![128, 0] : Fin 2 → ℕ) a + (![128, 1536] : Fin 2 → ℕ) a ≤ (![640, 1536] : Fin 2 → ℕ) a)
    (i2 : ∀ a : Fin 2, (![256, 0] : Fin 2 → ℕ) a + (![128, 1536] : Fin 2 → ℕ) a ≤ (![640, 1536] : Fin 2 → ℕ) a)
    (i3 : ∀ a : Fin 2, (![384, 0] : Fin 2 → ℕ) a + (![128, 1536] : Fin 2 → ℕ) a ≤ (![640, 1536] : Fin 2 → ℕ) a)
    (i4 : ∀ a : Fin 2, (![512, 0] : Fin 2 → ℕ) a + (![128, 1536] : Fin 2 → ℕ) a ≤ (![640, 1536] : Fin 2 → ℕ) a) :
    v.read (Elt F) (v.writes (Elt F) f (⟨Rect.unit (s := S640x1536) ![512, 0] ![128, 1536] i4, k0_pay49 W (slabOf x m 4 (slab_inb m hm 4)) (colOf inv 4) (rowsOf old 4)⟩ :: ⟨Rect.unit (s := S640x1536) ![384, 0] ![128, 1536] i3, k0_pay49 W (slabOf x m 3 (slab_inb m hm 3)) (colOf inv 3) (rowsOf old 3)⟩ :: ⟨Rect.unit (s := S640x1536) ![256, 0] ![128, 1536] i2, k0_pay49 W (slabOf x m 2 (slab_inb m hm 2)) (colOf inv 2) (rowsOf old 2)⟩ :: ⟨Rect.unit (s := S640x1536) ![128, 0] ![128, 1536] i1, k0_pay49 W (slabOf x m 1 (slab_inb m hm 1)) (colOf inv 1) (rowsOf old 1)⟩ :: ⟨Rect.unit (s := S640x1536) ![0, 0] ![128, 1536] i0, k0_pay49 W (slabOf x m 0 (slab_inb m hm 0)) (colOf inv 0) (rowsOf old 0)⟩ :: L)) = newSum m hm W x inv old :=
  read_rows5 v f L (sumC m hm W x inv old) i0 i1 i2 i3 i4

theorem close_h2 {sp : Space} (v : View sig .tc sp S640x1536 .f32) (f : v.ty.Contents (Elt F)) (L : List (View.Piece (Elt F) S640x1536 .f32)) (y : Vec F S640x1536 .f32) (rep : Vec F S640x128 .f32) (b : Vec F S1x1536 .f32) (h : Vec F S640x1536 .f32) (g be : Vec F S1x1536 .f32)
    (i0 : ∀ a : Fin 2, (![0, 0] : Fin 2 → ℕ) a + (![128, 1536] : Fin 2 → ℕ) a ≤ (![640, 1536] : Fin 2 → ℕ) a)
    (i1 : ∀ a : Fin 2, (![128, 0] : Fin 2 → ℕ) a + (![128, 1536] : Fin 2 → ℕ) a ≤ (![640, 1536] : Fin 2 → ℕ) a)
    (i2 : ∀ a : Fin 2, (![256, 0] : Fin 2 → ℕ) a + (![128, 1536] : Fin 2 → ℕ) a ≤ (![640, 1536] : Fin 2 → ℕ) a)
    (i3 : ∀ a : Fin 2, (![384, 0] : Fin 2 → ℕ) a + (![128, 1536] : Fin 2 → ℕ) a ≤ (![640, 1536] : Fin 2 → ℕ) a)
    (i4 : ∀ a : Fin 2, (![512, 0] : Fin 2 → ℕ) a + (![128, 1536] : Fin 2 → ℕ) a ≤ (![640, 1536] : Fin 2 → ℕ) a) :
    v.read (Elt F) (v.writes (Elt F) f (⟨Rect.unit (s := S640x1536) ![512, 0] ![128, 1536] i4, k0_pay64 (k0_pay63 (rowsOf y 4) (colOf rep 4)) (full2 b) (rowsOf h 4) (full2 g) (full2 be)⟩ :: ⟨Rect.unit (s := S640x1536) ![384, 0] ![128, 1536] i3, k0_pay64 (k0_pay63 (rowsOf y 3) (colOf rep 3)) (full2 b) (rowsOf h 3) (full2 g) (full2 be)⟩ :: ⟨Rect.unit (s := S640x1536) ![256, 0] ![128, 1536] i2, k0_pay64 (k0_pay63 (rowsOf y 2) (colOf rep 2)) (full2 b) (rowsOf h 2) (full2 g) (full2 be)⟩ :: ⟨Rect.unit (s := S640x1536) ![128, 0] ![128, 1536] i1, k0_pay64 (k0_pay63 (rowsOf y 1) (colOf rep 1)) (full2 b) (rowsOf h 1) (full2 g) (full2 be)⟩ :: ⟨Rect.unit (s := S640x1536) ![0, 0] ![128, 1536] i0, k0_pay64 (k0_pay63 (rowsOf y 0) (colOf rep 0)) (full2 b) (rowsOf h 0) (full2 g) (full2 be)⟩ :: L)) = newH2 y rep b h g be :=
  read_rows5 v f L (normC y rep b h g be) i0 i1 i2 i3 i4

theorem close_out {sp : Space} (v : View sig .tc sp S640x1536 .i8) (f : v.ty.Contents (Elt F)) (L : List (View.Piece (Elt F) S640x1536 .i8)) (y : Vec F S640x1536 .f32) (rep : Vec F S640x128 .f32) (b : Vec F S1x1536 .f32) (h : Vec F S640x1536 .f32) (g be : Vec F S1x1536 .f32)
    (i0 : ∀ a : Fin 2, (![0, 0] : Fin 2 → ℕ) a + (![128, 1536] : Fin 2 → ℕ) a ≤ (![640, 1536] : Fin 2 → ℕ) a)
    (i1 : ∀ a : Fin 2, (![128, 0] : Fin 2 → ℕ) a + (![128, 1536] : Fin 2 → ℕ) a ≤ (![640, 1536] : Fin 2 → ℕ) a)
    (i2 : ∀ a : Fin 2, (![256, 0] : Fin 2 → ℕ) a + (![128, 1536] : Fin 2 → ℕ) a ≤ (![640, 1536] : Fin 2 → ℕ) a)
    (i3 : ∀ a : Fin 2, (![384, 0] : Fin 2 → ℕ) a + (![128, 1536] : Fin 2 → ℕ) a ≤ (![640, 1536] : Fin 2 → ℕ) a)
    (i4 : ∀ a : Fin 2, (![512, 0] : Fin 2 → ℕ) a + (![128, 1536] : Fin 2 → ℕ) a ≤ (![640, 1536] : Fin 2 → ℕ) a) :
    v.read (Elt F) (v.writes (Elt F) f (⟨Rect.unit (s := S640x1536) ![512, 0] ![128, 1536] i4, k0_pay66 (k0_pay64 (k0_pay63 (rowsOf y 4) (colOf rep 4)) (full2 b) (rowsOf h 4) (full2 g) (full2 be)) (k0_pay65 (k0_pay63 (rowsOf y 4) (colOf rep 4)) (full2 b) (rowsOf h 4) (full2 g) (full2 be))⟩ :: ⟨Rect.unit (s := S640x1536) ![384, 0] ![128, 1536] i3, k0_pay66 (k0_pay64 (k0_pay63 (rowsOf y 3) (colOf rep 3)) (full2 b) (rowsOf h 3) (full2 g) (full2 be)) (k0_pay65 (k0_pay63 (rowsOf y 3) (colOf rep 3)) (full2 b) (rowsOf h 3) (full2 g) (full2 be))⟩ :: ⟨Rect.unit (s := S640x1536) ![256, 0] ![128, 1536] i2, k0_pay66 (k0_pay64 (k0_pay63 (rowsOf y 2) (colOf rep 2)) (full2 b) (rowsOf h 2) (full2 g) (full2 be)) (k0_pay65 (k0_pay63 (rowsOf y 2) (colOf rep 2)) (full2 b) (rowsOf h 2) (full2 g) (full2 be))⟩ :: ⟨Rect.unit (s := S640x1536) ![128, 0] ![128, 1536] i1, k0_pay66 (k0_pay64 (k0_pay63 (rowsOf y 1) (colOf rep 1)) (full2 b) (rowsOf h 1) (full2 g) (full2 be)) (k0_pay65 (k0_pay63 (rowsOf y 1) (colOf rep 1)) (full2 b) (rowsOf h 1) (full2 g) (full2 be))⟩ :: ⟨Rect.unit (s := S640x1536) ![0, 0] ![128, 1536] i0, k0_pay66 (k0_pay64 (k0_pay63 (rowsOf y 0) (colOf rep 0)) (full2 b) (rowsOf h 0) (full2 g) (full2 be)) (k0_pay65 (k0_pay63 (rowsOf y 0) (colOf rep 0)) (full2 b) (rowsOf h 0) (full2 g) (full2 be))⟩ :: L)) = newOut y rep b h g be :=
  read_rows5 v f L (outC y rep b h g be) i0 i1 i2 i3 i4

theorem close_os {sp : Space} (v : View sig .tc sp S2x640 .f32) (f : v.ty.Contents (Elt F)) (L : List (View.Piece (Elt F) S2x640 .f32)) (p : ℕ) (y : Vec F S640x1536 .f32) (rep : Vec F S640x128 .f32) (b : Vec F S1x1536 .f32) (h : Vec F S640x1536 .f32) (g be : Vec F S1x1536 .f32) (old : Vec F S2x640 .f32)
    (i0 : ∀ a : Fin 2, (![0, 0] : Fin 2 → ℕ) a + (![2, 128] : Fin 2 → ℕ) a ≤ (![2, 640] : Fin 2 → ℕ) a)
    (i1 : ∀ a : Fin 2, (![0, 128] : Fin 2 → ℕ) a + (![2, 128] : Fin 2 → ℕ) a ≤ (![2, 640] : Fin 2 → ℕ) a)
    (i2 : ∀ a : Fin 2, (![0, 256] : Fin 2 → ℕ) a + (![2, 128] : Fin 2 → ℕ) a ≤ (![2, 640] : Fin 2 → ℕ) a)
    (i3 : ∀ a : Fin 2, (![0, 384] : Fin 2 → ℕ) a + (![2, 128] : Fin 2 → ℕ) a ≤ (![2, 640] : Fin 2 → ℕ) a)
    (i4 : ∀ a : Fin 2, (![0, 512] : Fin 2 → ℕ) a + (![2, 128] : Fin 2 → ℕ) a ≤ (![2, 640] : Fin 2 → ℕ) a) :
    v.read (Elt F) (v.writes (Elt F) f (⟨Rect.unit (s := S2x640) ![0, 512] ![2, 128] i4, k0_pay67 (BitVec.ofNat 32 p) (k0_pay65 (k0_pay63 (rowsOf y 4) (colOf rep 4)) (full2 b) (rowsOf h 4) (full2 g) (full2 be)) (lanesOf old 4)⟩ :: ⟨Rect.unit (s := S2x640) ![0, 384] ![2, 128] i3, k0_pay67 (BitVec.ofNat 32 p) (k0_pay65 (k0_pay63 (rowsOf y 3) (colOf rep 3)) (full2 b) (rowsOf h 3) (full2 g) (full2 be)) (lanesOf old 3)⟩ :: ⟨Rect.unit (s := S2x640) ![0, 256] ![2, 128] i2, k0_pay67 (BitVec.ofNat 32 p) (k0_pay65 (k0_pay63 (rowsOf y 2) (colOf rep 2)) (full2 b) (rowsOf h 2) (full2 g) (full2 be)) (lanesOf old 2)⟩ :: ⟨Rect.unit (s := S2x640) ![0, 128] ![2, 128] i1, k0_pay67 (BitVec.ofNat 32 p) (k0_pay65 (k0_pay63 (rowsOf y 1) (colOf rep 1)) (full2 b) (rowsOf h 1) (full2 g) (full2 be)) (lanesOf old 1)⟩ :: ⟨Rect.unit (s := S2x640) ![0, 0] ![2, 128] i0, k0_pay67 (BitVec.ofNat 32 p) (k0_pay65 (k0_pay63 (rowsOf y 0) (colOf rep 0)) (full2 b) (rowsOf h 0) (full2 g) (full2 be)) (lanesOf old 0)⟩ :: L)) = newOs p y rep b h g be old :=
  read_lanes5 v f L (fun k => k0_pay67 (BitVec.ofNat 32 p) (scaleC y rep b h g be k) (lanesOf old k)) i0 i1 i2 i3 i4

theorem close_full {sp : Space} {e : EltTy} {m n : ℕ} (v : View sig .tc sp (⟨2, ![m, n]⟩ : Shape) e) (f : v.ty.Contents (Elt F)) (L : List (View.Piece (Elt F) (⟨2, ![m, n]⟩ : Shape) e))
    (i : ∀ a : Fin 2, (![0, 0] : Fin 2 → ℕ) a + (![m, n] : Fin 2 → ℕ) a ≤ (![m, n] : Fin 2 → ℕ) a) (w : Vec F (⟨2, ![m, n]⟩ : Shape) e) :
    v.read (Elt F) (v.writes (Elt F) f (⟨Rect.unit (s := ⟨2, ![m, n]⟩) ![0, 0] ![m, n] i, w⟩ :: L)) = w := View.read_writes_full v f i w L

theorem close_fs {sp : Space} (v : View sig .tc sp S2x640 .f32) (f : v.ty.Contents (Elt F)) (L : List (View.Piece (Elt F) S2x640 .f32)) (b : ℕ) (mx : Vec F S640x128 .f32) (old : Vec F S2x640 .f32)
    (i : ∀ a : Fin 2, (![0, 0] : Fin 2 → ℕ) a + (![2, 640] : Fin 2 → ℕ) a ≤ (![2, 640] : Fin 2 → ℕ) a) :
    v.read (Elt F) (v.writes (Elt F) f (⟨Rect.unit (s := S2x640) ![0, 0] ![2, 640] i, k0_pay6 (k0_pay33 (full2 mx)) (k0_pay36 (BitVec.ofNat 32 b)) k0_pay37 (k0_pay38 (full2 mx)) (k0_pay39 (full2 mx)) (k0_pay40 (full2 mx)) (k0_pay41 (full2 mx)) (full2 old)⟩ :: L))
      = newFs b mx old := View.read_writes_full v f i _ L

end Cert.KernelIdeal.Hand

end
-- ==== Proof.Ideal.RunA.lean ====
/-
  The first grid point: the scales cleared, the operand and the maxima set, and the first column block's product.
-/
module

public import proofs.«01_k».proof.Proof.Ideal.Close

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 400000 in
theorem run_A (c : Dev nD) (i : grid0.Coords) (arg2 : Memref sig .tc .vmem S640x1536 .i8) (harg2 : arg2.IsWhole) (arg3 : Memref sig .tc .vmem S640x128 .f32) (harg3 : arg3.IsWhole) (arg4 : Memref sig .tc .vmem S640x1536 .f32) (harg4 : arg4.IsWhole) (arg5 : Memref sig .tc .vmem S768x1024 .i8) (harg5 : arg5.IsWhole) (arg6 : Memref sig .tc .vmem S1x12x1024 .f32) (harg6 : arg6.IsWhole) (arg7 : Memref sig .tc .vmem S1x1024 .f32) (harg7 : arg7.IsWhole) (arg8 : Memref sig .tc .vmem S512x1536 .i8) (harg8 : arg8.IsWhole) (arg9 : Memref sig .tc .vmem S8x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1x1536 .f32) (harg12 : arg12.IsWhole) (arg13 : Memref sig .tc .vmem S640x1536 .i8) (harg13 : arg13.IsWhole) (arg14 : Memref sig .tc .vmem S2x640 .f32) (harg14 : arg14.IsWhole) (arg15 : Memref sig .tc .vmem S640x1536 .f32) (harg15 : arg15.IsWhole) (arg16 : Memref sig .tc .vmem S640x1024 .i8) (harg16 : arg16.IsWhole) (arg17 : Memref sig .tc .vmem S2x640 .f32) (harg17 : arg17.IsWhole) (arg18 : Memref sig .tc .vmem S640x1536 .bf16) (harg18 : arg18.IsWhole) (arg19 : Memref sig .tc .vmem S6x640x1024 .f32) (harg19 : arg19.IsWhole) (arg20 : Memref sig .tc .vmem S640x128 .f32) (harg20 : arg20.IsWhole) (arg21 : Memref sig .tc .vmem S640x128 .f32) (harg21 : arg21.IsWhole) (arg22 : Memref sig .tc .vmem S640x128 .f32) (harg22 : arg22.IsWhole) (arg23 : Memref sig .tc .vmem S640x1536 .f32) (harg23 : arg23.IsWhole) (hc0 : cond0 i) (hc1 : cond1 i) (hc2 : cond2 i) (hc3 : ¬cond3 i) (hc4 : ¬cond4 i) (hc5 : ¬cond5 i) (x2 : Vec F S640x1536 .i8) (x3 : Vec F S640x128 .f32) (x4 : Vec F S640x1536 .f32) (x5 : Vec F S768x1024 .i8) (x6 : Vec F S1x12x1024 .f32) (x7 : Vec F S1x1024 .f32) (x8 : Vec F S512x1536 .i8) (x9 : Vec F S8x1536 .f32) (x10 : Vec F S1x1536 .f32) (x11 : Vec F S1x1536 .f32) (x12 : Vec F S1x1536 .f32) (x13 : Vec F S640x1536 .i8) (x14 : Vec F S2x640 .f32) (x15 : Vec F S640x1536 .f32) (x16 : Vec F S640x1024 .i8) (x17 : Vec F S2x640 .f32) (x18 : Vec F S640x1536 .bf16) (x19 : Vec F S6x640x1024 .f32) (x20 : Vec F S640x128 .f32) (x21 : Vec F S640x128 .f32) (x22 : Vec F S640x128 .f32) (x23 : Vec F S640x1536 .f32) (K : PUnit → sProp (MT nD τ sig Unit (Elt F) ℕ (UR sig nD τ) ℕ))
   : iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare k0_pay2 ∗ owns (c : Thread nD τ) arg15 fullShare x15 ∗ owns (c : Thread nD τ) arg16 fullShare x16 ∗ owns (c : Thread nD τ) arg17 fullShare k0_pay1 ∗ owns (c : Thread nD τ) arg18 fullShare (k0_pay3 (full2 x2)) ∗ owns (c : Thread nD τ) arg19 fullShare (newF (i 1).val (wIn x5 x6) (k0_pay3 (full2 x2)) x3 x7 x19) ∗ owns (c : Thread nD τ) arg20 fullShare (newMax (wIn x5 x6) (k0_pay3 (full2 x2)) x3 x7 k0_pay4) ∗ owns (c : Thread nD τ) arg21 fullShare x21 ∗ owns (c : Thread nD τ) arg22 fullShare x22 ∗ owns (c : Thread nD τ) arg23 fullShare x23) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23
  sl_exec (disch := first | sl_exact hc0 | sl_exact hc1 | sl_exact hc2 | sl_exact hc3 | sl_exact hc4 | sl_exact hc5)
  sl_step
  iapply Hk
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  isplitl [H11]
  · iexists _; isplitr; swap; · iexact H11
    ipureintro
    rfl
  isplitl [H12]
  · iexists _; isplitr; swap; · iexact H12
    ipureintro
    rfl
  isplitl [H13]
  · iexists _; isplitr; swap; · iexact H13
    ipureintro
    rfl
  isplitl [H14]
  · iexists _; isplitr; swap; · iexact H14
    ipureintro
    sl_unfold_run_names
    simp only [readAt_window, rows_0, cols_0, lanes_0, rows_1, cols_1, lanes_1, rows_2, cols_2, lanes_2, rows_3, cols_3, lanes_3, rows_4, cols_4, lanes_4, win_full2, win_full3]
    exact close_full _ _ _ _ _
  isplitl [H15]
  · iexists _; isplitr; swap; · iexact H15
    ipureintro
    rfl
  isplitl [H16]
  · iexists _; isplitr; swap; · iexact H16
    ipureintro
    rfl
  isplitl [H17]
  · iexists _; isplitr; swap; · iexact H17
    ipureintro
    sl_unfold_run_names
    simp only [readAt_window, rows_0, cols_0, lanes_0, rows_1, cols_1, lanes_1, rows_2, cols_2, lanes_2, rows_3, cols_3, lanes_3, rows_4, cols_4, lanes_4, win_full2, win_full3]
    exact close_full _ _ _ _ _
  isplitl [H18]
  · iexists _; isplitr; swap; · iexact H18
    ipureintro
    sl_unfold_run_names
    simp only [readAt_window, rows_0, cols_0, lanes_0, rows_1, cols_1, lanes_1, rows_2, cols_2, lanes_2, rows_3, cols_3, lanes_3, rows_4, cols_4, lanes_4, win_full2, win_full3]
    exact close_full _ _ _ _ _
  isplitl [H19]
  · iexists _; isplitr; swap; · iexact H19
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, act0, act1, act2, act3, act4, max0, max1, max2, max4, rows_0, cols_0, lanes_0, rows_1, cols_1, lanes_1, rows_2, cols_2, lanes_2, rows_3, cols_3, lanes_3, rows_4, cols_4, lanes_4, win_full2, win_full3]
    exact close_f arg19.view f19 (i 1).val _ _ _ _ _ _ _ _ _ _ _ _ _ _ (k0_off1_eq i) (k0_off2_eq i) (k0_off3_eq i) (k0_off4_eq i) (k0_off5_eq i)
  isplitl [H20]
  · iexists _; isplitr; swap; · iexact H20
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, act0, act1, act2, act3, act4, max0, max1, max2, max4, rows_0, cols_0, lanes_0, rows_1, cols_1, lanes_1, rows_2, cols_2, lanes_2, rows_3, cols_3, lanes_3, rows_4, cols_4, lanes_4, win_full2, win_full3]
    exact close_max arg20.view _ _ _ _ _ _ _ _ _ _ _ _
  isplitl [H21]
  · iexists _; isplitr; swap; · iexact H21
    ipureintro
    rfl
  isplitl [H22]
  · iexists _; isplitr; swap; · iexact H22
    ipureintro
    rfl
  iexists _; isplitr; swap; · iexact H23
  ipureintro
  rfl

end Cert.KernelIdeal.Hand

end
-- ==== Proof.Ideal.RunB.lean ====
/-
  The first point of a later batch row: the operand and the maxima set, and the first column block's product.
-/
module

public import proofs.«01_k».proof.Proof.Ideal.Close

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 400000 in
theorem run_B (c : Dev nD) (i : grid0.Coords) (arg2 : Memref sig .tc .vmem S640x1536 .i8) (harg2 : arg2.IsWhole) (arg3 : Memref sig .tc .vmem S640x128 .f32) (harg3 : arg3.IsWhole) (arg4 : Memref sig .tc .vmem S640x1536 .f32) (harg4 : arg4.IsWhole) (arg5 : Memref sig .tc .vmem S768x1024 .i8) (harg5 : arg5.IsWhole) (arg6 : Memref sig .tc .vmem S1x12x1024 .f32) (harg6 : arg6.IsWhole) (arg7 : Memref sig .tc .vmem S1x1024 .f32) (harg7 : arg7.IsWhole) (arg8 : Memref sig .tc .vmem S512x1536 .i8) (harg8 : arg8.IsWhole) (arg9 : Memref sig .tc .vmem S8x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1x1536 .f32) (harg12 : arg12.IsWhole) (arg13 : Memref sig .tc .vmem S640x1536 .i8) (harg13 : arg13.IsWhole) (arg14 : Memref sig .tc .vmem S2x640 .f32) (harg14 : arg14.IsWhole) (arg15 : Memref sig .tc .vmem S640x1536 .f32) (harg15 : arg15.IsWhole) (arg16 : Memref sig .tc .vmem S640x1024 .i8) (harg16 : arg16.IsWhole) (arg17 : Memref sig .tc .vmem S2x640 .f32) (harg17 : arg17.IsWhole) (arg18 : Memref sig .tc .vmem S640x1536 .bf16) (harg18 : arg18.IsWhole) (arg19 : Memref sig .tc .vmem S6x640x1024 .f32) (harg19 : arg19.IsWhole) (arg20 : Memref sig .tc .vmem S640x128 .f32) (harg20 : arg20.IsWhole) (arg21 : Memref sig .tc .vmem S640x128 .f32) (harg21 : arg21.IsWhole) (arg22 : Memref sig .tc .vmem S640x128 .f32) (harg22 : arg22.IsWhole) (arg23 : Memref sig .tc .vmem S640x1536 .f32) (harg23 : arg23.IsWhole) (hc0 : ¬cond0 i) (hc1 : cond1 i) (hc2 : cond2 i) (hc3 : ¬cond3 i) (hc4 : ¬cond4 i) (hc5 : ¬cond5 i) (x2 : Vec F S640x1536 .i8) (x3 : Vec F S640x128 .f32) (x4 : Vec F S640x1536 .f32) (x5 : Vec F S768x1024 .i8) (x6 : Vec F S1x12x1024 .f32) (x7 : Vec F S1x1024 .f32) (x8 : Vec F S512x1536 .i8) (x9 : Vec F S8x1536 .f32) (x10 : Vec F S1x1536 .f32) (x11 : Vec F S1x1536 .f32) (x12 : Vec F S1x1536 .f32) (x13 : Vec F S640x1536 .i8) (x14 : Vec F S2x640 .f32) (x15 : Vec F S640x1536 .f32) (x16 : Vec F S640x1024 .i8) (x17 : Vec F S2x640 .f32) (x18 : Vec F S640x1536 .bf16) (x19 : Vec F S6x640x1024 .f32) (x20 : Vec F S640x128 .f32) (x21 : Vec F S640x128 .f32) (x22 : Vec F S640x128 .f32) (x23 : Vec F S640x1536 .f32) (K : PUnit → sProp (MT nD τ sig Unit (Elt F) ℕ (UR sig nD τ) ℕ))
   : iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (k0_pay3 (full2 x2)) ∗ owns (c : Thread nD τ) arg19 fullShare (newF (i 1).val (wIn x5 x6) (k0_pay3 (full2 x2)) x3 x7 x19) ∗ owns (c : Thread nD τ) arg20 fullShare (newMax (wIn x5 x6) (k0_pay3 (full2 x2)) x3 x7 k0_pay4) ∗ owns (c : Thread nD τ) arg21 fullShare x21 ∗ owns (c : Thread nD τ) arg22 fullShare x22 ∗ owns (c : Thread nD τ) arg23 fullShare x23) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23
  sl_exec (disch := first | sl_exact hc0 | sl_exact hc1 | sl_exact hc2 | sl_exact hc3 | sl_exact hc4 | sl_exact hc5)
  sl_step
  iapply Hk
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  isplitl [H11]
  · iexists _; isplitr; swap; · iexact H11
    ipureintro
    rfl
  isplitl [H12]
  · iexists _; isplitr; swap; · iexact H12
    ipureintro
    rfl
  isplitl [H13]
  · iexists _; isplitr; swap; · iexact H13
    ipureintro
    rfl
  isplitl [H14]
  · iexists _; isplitr; swap; · iexact H14
    ipureintro
    rfl
  isplitl [H15]
  · iexists _; isplitr; swap; · iexact H15
    ipureintro
    rfl
  isplitl [H16]
  · iexists _; isplitr; swap; · iexact H16
    ipureintro
    rfl
  isplitl [H17]
  · iexists _; isplitr; swap; · iexact H17
    ipureintro
    rfl
  isplitl [H18]
  · iexists _; isplitr; swap; · iexact H18
    ipureintro
    sl_unfold_run_names
    simp only [readAt_window, rows_0, cols_0, lanes_0, rows_1, cols_1, lanes_1, rows_2, cols_2, lanes_2, rows_3, cols_3, lanes_3, rows_4, cols_4, lanes_4, win_full2, win_full3]
    exact close_full _ _ _ _ _
  isplitl [H19]
  · iexists _; isplitr; swap; · iexact H19
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, act0, act1, act2, act3, act4, max0, max1, max2, max4, rows_0, cols_0, lanes_0, rows_1, cols_1, lanes_1, rows_2, cols_2, lanes_2, rows_3, cols_3, lanes_3, rows_4, cols_4, lanes_4, win_full2, win_full3]
    exact close_f arg19.view f19 (i 1).val _ _ _ _ _ _ _ _ _ _ _ _ _ _ (k0_off1_eq i) (k0_off2_eq i) (k0_off3_eq i) (k0_off4_eq i) (k0_off5_eq i)
  isplitl [H20]
  · iexists _; isplitr; swap; · iexact H20
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, act0, act1, act2, act3, act4, max0, max1, max2, max4, rows_0, cols_0, lanes_0, rows_1, cols_1, lanes_1, rows_2, cols_2, lanes_2, rows_3, cols_3, lanes_3, rows_4, cols_4, lanes_4, win_full2, win_full3]
    exact close_max arg20.view _ _ _ _ _ _ _ _ _ _ _ _
  isplitl [H21]
  · iexists _; isplitr; swap; · iexact H21
    ipureintro
    rfl
  isplitl [H22]
  · iexists _; isplitr; swap; · iexact H22
    ipureintro
    rfl
  iexists _; isplitr; swap; · iexact H23
  ipureintro
  rfl

end Cert.KernelIdeal.Hand

end
-- ==== Proof.Ideal.RunC.lean ====
/-
  One of the steps 1 to 5 of a batch row: the first product of a column block, from the operand left by step 0.
-/
module

public import proofs.«01_k».proof.Proof.Ideal.Close

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 400000 in
theorem run_C (c : Dev nD) (i : grid0.Coords) (arg2 : Memref sig .tc .vmem S640x1536 .i8) (harg2 : arg2.IsWhole) (arg3 : Memref sig .tc .vmem S640x128 .f32) (harg3 : arg3.IsWhole) (arg4 : Memref sig .tc .vmem S640x1536 .f32) (harg4 : arg4.IsWhole) (arg5 : Memref sig .tc .vmem S768x1024 .i8) (harg5 : arg5.IsWhole) (arg6 : Memref sig .tc .vmem S1x12x1024 .f32) (harg6 : arg6.IsWhole) (arg7 : Memref sig .tc .vmem S1x1024 .f32) (harg7 : arg7.IsWhole) (arg8 : Memref sig .tc .vmem S512x1536 .i8) (harg8 : arg8.IsWhole) (arg9 : Memref sig .tc .vmem S8x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1x1536 .f32) (harg12 : arg12.IsWhole) (arg13 : Memref sig .tc .vmem S640x1536 .i8) (harg13 : arg13.IsWhole) (arg14 : Memref sig .tc .vmem S2x640 .f32) (harg14 : arg14.IsWhole) (arg15 : Memref sig .tc .vmem S640x1536 .f32) (harg15 : arg15.IsWhole) (arg16 : Memref sig .tc .vmem S640x1024 .i8) (harg16 : arg16.IsWhole) (arg17 : Memref sig .tc .vmem S2x640 .f32) (harg17 : arg17.IsWhole) (arg18 : Memref sig .tc .vmem S640x1536 .bf16) (harg18 : arg18.IsWhole) (arg19 : Memref sig .tc .vmem S6x640x1024 .f32) (harg19 : arg19.IsWhole) (arg20 : Memref sig .tc .vmem S640x128 .f32) (harg20 : arg20.IsWhole) (arg21 : Memref sig .tc .vmem S640x128 .f32) (harg21 : arg21.IsWhole) (arg22 : Memref sig .tc .vmem S640x128 .f32) (harg22 : arg22.IsWhole) (arg23 : Memref sig .tc .vmem S640x1536 .f32) (harg23 : arg23.IsWhole) (hc0 : ¬cond0 i) (hc1 : ¬cond1 i) (hc2 : cond2 i) (hc3 : ¬cond3 i) (hc4 : ¬cond4 i) (hc5 : ¬cond5 i) (x2 : Vec F S640x1536 .i8) (x3 : Vec F S640x128 .f32) (x4 : Vec F S640x1536 .f32) (x5 : Vec F S768x1024 .i8) (x6 : Vec F S1x12x1024 .f32) (x7 : Vec F S1x1024 .f32) (x8 : Vec F S512x1536 .i8) (x9 : Vec F S8x1536 .f32) (x10 : Vec F S1x1536 .f32) (x11 : Vec F S1x1536 .f32) (x12 : Vec F S1x1536 .f32) (x13 : Vec F S640x1536 .i8) (x14 : Vec F S2x640 .f32) (x15 : Vec F S640x1536 .f32) (x16 : Vec F S640x1024 .i8) (x17 : Vec F S2x640 .f32) (x18 : Vec F S640x1536 .bf16) (x19 : Vec F S6x640x1024 .f32) (x20 : Vec F S640x128 .f32) (x21 : Vec F S640x128 .f32) (x22 : Vec F S640x128 .f32) (x23 : Vec F S640x1536 .f32) (K : PUnit → sProp (MT nD τ sig Unit (Elt F) ℕ (UR sig nD τ) ℕ))
   : iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (newF (i 1).val (wIn x5 x6) x18 x3 x7 x19) ∗ owns (c : Thread nD τ) arg20 fullShare (newMax (wIn x5 x6) x18 x3 x7 x20) ∗ owns (c : Thread nD τ) arg21 fullShare x21 ∗ owns (c : Thread nD τ) arg22 fullShare x22 ∗ owns (c : Thread nD τ) arg23 fullShare x23) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23
  sl_exec (disch := first | sl_exact hc0 | sl_exact hc1 | sl_exact hc2 | sl_exact hc3 | sl_exact hc4 | sl_exact hc5)
  sl_step
  iapply Hk
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  isplitl [H11]
  · iexists _; isplitr; swap; · iexact H11
    ipureintro
    rfl
  isplitl [H12]
  · iexists _; isplitr; swap; · iexact H12
    ipureintro
    rfl
  isplitl [H13]
  · iexists _; isplitr; swap; · iexact H13
    ipureintro
    rfl
  isplitl [H14]
  · iexists _; isplitr; swap; · iexact H14
    ipureintro
    rfl
  isplitl [H15]
  · iexists _; isplitr; swap; · iexact H15
    ipureintro
    rfl
  isplitl [H16]
  · iexists _; isplitr; swap; · iexact H16
    ipureintro
    rfl
  isplitl [H17]
  · iexists _; isplitr; swap; · iexact H17
    ipureintro
    rfl
  isplitl [H18]
  · iexists _; isplitr; swap; · iexact H18
    ipureintro
    rfl
  isplitl [H19]
  · iexists _; isplitr; swap; · iexact H19
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, act0, act1, act2, act3, act4, max0, max1, max2, max4, rows_0, cols_0, lanes_0, rows_1, cols_1, lanes_1, rows_2, cols_2, lanes_2, rows_3, cols_3, lanes_3, rows_4, cols_4, lanes_4, win_full2, win_full3]
    exact close_f arg19.view f19 (i 1).val _ _ _ _ _ _ _ _ _ _ _ _ _ _ (k0_off1_eq i) (k0_off2_eq i) (k0_off3_eq i) (k0_off4_eq i) (k0_off5_eq i)
  isplitl [H20]
  · iexists _; isplitr; swap; · iexact H20
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, act0, act1, act2, act3, act4, max0, max1, max2, max4, rows_0, cols_0, lanes_0, rows_1, cols_1, lanes_1, rows_2, cols_2, lanes_2, rows_3, cols_3, lanes_3, rows_4, cols_4, lanes_4, win_full2, win_full3]
    exact close_max arg20.view _ _ _ _ _ _ _ _ _ _ _ _
  isplitl [H21]
  · iexists _; isplitr; swap; · iexact H21
    ipureintro
    rfl
  isplitl [H22]
  · iexists _; isplitr; swap; · iexact H22
    ipureintro
    rfl
  iexists _; isplitr; swap; · iexact H23
  ipureintro
  rfl

end Cert.KernelIdeal.Hand

end
-- ==== Proof.Ideal.RunD.lean ====
/-
  Step 6 of a batch row: the row scales, and the second product's first block.
-/
module

public import proofs.«01_k».proof.Proof.Ideal.Close

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 400000 in
theorem run_D (c : Dev nD) (i : grid0.Coords) (arg2 : Memref sig .tc .vmem S640x1536 .i8) (harg2 : arg2.IsWhole) (arg3 : Memref sig .tc .vmem S640x128 .f32) (harg3 : arg3.IsWhole) (arg4 : Memref sig .tc .vmem S640x1536 .f32) (harg4 : arg4.IsWhole) (arg5 : Memref sig .tc .vmem S768x1024 .i8) (harg5 : arg5.IsWhole) (arg6 : Memref sig .tc .vmem S1x12x1024 .f32) (harg6 : arg6.IsWhole) (arg7 : Memref sig .tc .vmem S1x1024 .f32) (harg7 : arg7.IsWhole) (arg8 : Memref sig .tc .vmem S512x1536 .i8) (harg8 : arg8.IsWhole) (arg9 : Memref sig .tc .vmem S8x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1x1536 .f32) (harg12 : arg12.IsWhole) (arg13 : Memref sig .tc .vmem S640x1536 .i8) (harg13 : arg13.IsWhole) (arg14 : Memref sig .tc .vmem S2x640 .f32) (harg14 : arg14.IsWhole) (arg15 : Memref sig .tc .vmem S640x1536 .f32) (harg15 : arg15.IsWhole) (arg16 : Memref sig .tc .vmem S640x1024 .i8) (harg16 : arg16.IsWhole) (arg17 : Memref sig .tc .vmem S2x640 .f32) (harg17 : arg17.IsWhole) (arg18 : Memref sig .tc .vmem S640x1536 .bf16) (harg18 : arg18.IsWhole) (arg19 : Memref sig .tc .vmem S6x640x1024 .f32) (harg19 : arg19.IsWhole) (arg20 : Memref sig .tc .vmem S640x128 .f32) (harg20 : arg20.IsWhole) (arg21 : Memref sig .tc .vmem S640x128 .f32) (harg21 : arg21.IsWhole) (arg22 : Memref sig .tc .vmem S640x128 .f32) (harg22 : arg22.IsWhole) (arg23 : Memref sig .tc .vmem S640x1536 .f32) (harg23 : arg23.IsWhole) (hc0 : ¬cond0 i) (hc1 : ¬cond1 i) (hc2 : ¬cond2 i) (hc3 : cond3 i) (hc4 : cond4 i) (hc5 : ¬cond5 i) (x2 : Vec F S640x1536 .i8) (x3 : Vec F S640x128 .f32) (x4 : Vec F S640x1536 .f32) (x5 : Vec F S768x1024 .i8) (x6 : Vec F S1x12x1024 .f32) (x7 : Vec F S1x1024 .f32) (x8 : Vec F S512x1536 .i8) (x9 : Vec F S8x1536 .f32) (x10 : Vec F S1x1536 .f32) (x11 : Vec F S1x1536 .f32) (x12 : Vec F S1x1536 .f32) (x13 : Vec F S640x1536 .i8) (x14 : Vec F S2x640 .f32) (x15 : Vec F S640x1536 .f32) (x16 : Vec F S640x1024 .i8) (x17 : Vec F S2x640 .f32) (x18 : Vec F S640x1536 .bf16) (x19 : Vec F S6x640x1024 .f32) (x20 : Vec F S640x128 .f32) (x21 : Vec F S640x128 .f32) (x22 : Vec F S640x128 .f32) (x23 : Vec F S640x1536 .f32) (K : PUnit → sProp (MT nD τ sig Unit (Elt F) ℕ (UR sig nD τ) ℕ))
   : iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (newCodes ((i 1).val - 6) (slab_lt i) x19 (k0_pay35 (full2 x20))) ∗ owns (c : Thread nD τ) arg17 fullShare (newFs (i 0).val x20 x17) ∗ owns (c : Thread nD τ) arg18 fullShare x18 ∗ owns (c : Thread nD τ) arg19 fullShare x19 ∗ owns (c : Thread nD τ) arg20 fullShare x20 ∗ owns (c : Thread nD τ) arg21 fullShare (k0_pay35 (full2 x20)) ∗ owns (c : Thread nD τ) arg22 fullShare (k0_pay34 (full2 x20)) ∗ owns (c : Thread nD τ) arg23 fullShare (newSum ((i 1).val - 6) (slab_lt i) (wOut x8 x9) x19 (k0_pay35 (full2 x20)) k0_pay7)) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_eq_skeleton]; unfold cc0_ffn_skel
  simp only [k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23
  sl_exec (disch := first | sl_exact hc0 | sl_exact hc1 | sl_exact hc2 | sl_exact hc3 | sl_exact hc4 | sl_exact hc5)
  sl_step
  iapply Hk
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  isplitl [H11]
  · iexists _; isplitr; swap; · iexact H11
    ipureintro
    rfl
  isplitl [H12]
  · iexists _; isplitr; swap; · iexact H12
    ipureintro
    rfl
  isplitl [H13]
  · iexists _; isplitr; swap; · iexact H13
    ipureintro
    rfl
  isplitl [H14]
  · iexists _; isplitr; swap; · iexact H14
    ipureintro
    rfl
  isplitl [H15]
  · iexists _; isplitr; swap; · iexact H15
    ipureintro
    rfl
  isplitl [H16]
  · iexists _; isplitr; swap; · iexact H16
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, codes0, codes2, codes3, codes4, sum0, sum2, sum3, sum4, rows_0, cols_0, lanes_0, rows_1, cols_1, lanes_1, rows_2, cols_2, lanes_2, rows_3, cols_3, lanes_3, rows_4, cols_4, lanes_4, win_full2, win_full3, slab_0 _ _ (slab_lt i) _ (off6_eq i hc4), slab_1 _ _ (slab_lt i) _ (off7_eq i hc4), slab_2 _ _ (slab_lt i) _ (off8_eq i hc4), slab_3 _ _ (slab_lt i) _ (off9_eq i hc4), slab_4 _ _ (slab_lt i) _ (off10_eq i hc4)]
    exact close_codes arg16.view _ _ _ _ _ _ _ _ _ _ _
  isplitl [H17]
  · iexists _; isplitr; swap; · iexact H17
    ipureintro
    sl_unfold_run_names
    simp only [readAt_window, rows_0, cols_0, lanes_0, rows_1, cols_1, lanes_1, rows_2, cols_2, lanes_2, rows_3, cols_3, lanes_3, rows_4, cols_4, lanes_4, win_full2, win_full3]
    exact close_fs _ _ _ _ _ _ _
  isplitl [H18]
  · iexists _; isplitr; swap; · iexact H18
    ipureintro
    rfl
  isplitl [H19]
  · iexists _; isplitr; swap; · iexact H19
    ipureintro
    rfl
  isplitl [H20]
  · iexists _; isplitr; swap; · iexact H20
    ipureintro
    rfl
  isplitl [H21]
  · iexists _; isplitr; swap; · iexact H21
    ipureintro
    sl_unfold_run_names
    simp only [readAt_window, rows_0, cols_0, lanes_0, rows_1, cols_1, lanes_1, rows_2, cols_2, lanes_2, rows_3, cols_3, lanes_3, rows_4, cols_4, lanes_4, win_full2, win_full3]
    exact close_full _ _ _ _ _
  isplitl [H22]
  · iexists _; isplitr; swap; · iexact H22
    ipureintro
    sl_unfold_run_names
    simp only [readAt_window, rows_0, cols_0, lanes_0, rows_1, cols_1, lanes_1, rows_2, cols_2, lanes_2, rows_3, cols_3, lanes_3, rows_4, cols_4, lanes_4, win_full2, win_full3]
    exact close_full _ _ _ _ _
  iexists _; isplitr; swap; · iexact H23
  ipureintro
  sl_unfold_run_names
  simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, codes0, codes2, codes3, codes4, sum0, sum2, sum3, sum4, rows_0, cols_0, lanes_0, rows_1, cols_1, lanes_1, rows_2, cols_2, lanes_2, rows_3, cols_3, lanes_3, rows_4, cols_4, lanes_4, win_full2, win_full3, slab_0 _ _ (slab_lt i) _ (off6_eq i hc4), slab_1 _ _ (slab_lt i) _ (off7_eq i hc4), slab_2 _ _ (slab_lt i) _ (off8_eq i hc4), slab_3 _ _ (slab_lt i) _ (off9_eq i hc4), slab_4 _ _ (slab_lt i) _ (off10_eq i hc4)]
  exact close_sum arg23.view _ _ _ _ _ _ _ _ _ _ _ _ _

end Cert.KernelIdeal.Hand

end
-- ==== Proof.Ideal.RunE.lean ====
/-
  One of the steps 7 to 10 of a batch row: a block of the second product added to the sum.
-/
module

public import proofs.«01_k».proof.Proof.Ideal.Close

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 400000 in
theorem run_E (c : Dev nD) (i : grid0.Coords) (arg2 : Memref sig .tc .vmem S640x1536 .i8) (harg2 : arg2.IsWhole) (arg3 : Memref sig .tc .vmem S640x128 .f32) (harg3 : arg3.IsWhole) (arg4 : Memref sig .tc .vmem S640x1536 .f32) (harg4 : arg4.IsWhole) (arg5 : Memref sig .tc .vmem S768x1024 .i8) (harg5 : arg5.IsWhole) (arg6 : Memref sig .tc .vmem S1x12x1024 .f32) (harg6 : arg6.IsWhole) (arg7 : Memref sig .tc .vmem S1x1024 .f32) (harg7 : arg7.IsWhole) (arg8 : Memref sig .tc .vmem S512x1536 .i8) (harg8 : arg8.IsWhole) (arg9 : Memref sig .tc .vmem S8x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1x1536 .f32) (harg12 : arg12.IsWhole) (arg13 : Memref sig .tc .vmem S640x1536 .i8) (harg13 : arg13.IsWhole) (arg14 : Memref sig .tc .vmem S2x640 .f32) (harg14 : arg14.IsWhole) (arg15 : Memref sig .tc .vmem S640x1536 .f32) (harg15 : arg15.IsWhole) (arg16 : Memref sig .tc .vmem S640x1024 .i8) (harg16 : arg16.IsWhole) (arg17 : Memref sig .tc .vmem S2x640 .f32) (harg17 : arg17.IsWhole) (arg18 : Memref sig .tc .vmem S640x1536 .bf16) (harg18 : arg18.IsWhole) (arg19 : Memref sig .tc .vmem S6x640x1024 .f32) (harg19 : arg19.IsWhole) (arg20 : Memref sig .tc .vmem S640x128 .f32) (harg20 : arg20.IsWhole) (arg21 : Memref sig .tc .vmem S640x128 .f32) (harg21 : arg21.IsWhole) (arg22 : Memref sig .tc .vmem S640x128 .f32) (harg22 : arg22.IsWhole) (arg23 : Memref sig .tc .vmem S640x1536 .f32) (harg23 : arg23.IsWhole) (hc0 : ¬cond0 i) (hc1 : ¬cond1 i) (hc2 : ¬cond2 i) (hc3 : ¬cond3 i) (hc4 : cond4 i) (hc5 : ¬cond5 i) (x2 : Vec F S640x1536 .i8) (x3 : Vec F S640x128 .f32) (x4 : Vec F S640x1536 .f32) (x5 : Vec F S768x1024 .i8) (x6 : Vec F S1x12x1024 .f32) (x7 : Vec F S1x1024 .f32) (x8 : Vec F S512x1536 .i8) (x9 : Vec F S8x1536 .f32) (x10 : Vec F S1x1536 .f32) (x11 : Vec F S1x1536 .f32) (x12 : Vec F S1x1536 .f32) (x13 : Vec F S640x1536 .i8) (x14 : Vec F S2x640 .f32) (x15 : Vec F S640x1536 .f32) (x16 : Vec F S640x1024 .i8) (x17 : Vec F S2x640 .f32) (x18 : Vec F S640x1536 .bf16) (x19 : Vec F S6x640x1024 .f32) (x20 : Vec F S640x128 .f32) (x21 : Vec F S640x128 .f32) (x22 : Vec F S640x128 .f32) (x23 : Vec F S640x1536 .f32) (K : PUnit → sProp (MT nD τ sig Unit (Elt F) ℕ (UR sig nD τ) ℕ))
   : iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (newCodes ((i 1).val - 6) (slab_lt i) x19 x21) ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare (newSum ((i 1).val - 6) (slab_lt i) (wOut x8 x9) x19 x21 x23)) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_eq_skeleton]; unfold cc0_ffn_skel
  simp only [k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23
  sl_exec (disch := first | sl_exact hc0 | sl_exact hc1 | sl_exact hc2 | sl_exact hc3 | sl_exact hc4 | sl_exact hc5)
  sl_step
  iapply Hk
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  isplitl [H11]
  · iexists _; isplitr; swap; · iexact H11
    ipureintro
    rfl
  isplitl [H12]
  · iexists _; isplitr; swap; · iexact H12
    ipureintro
    rfl
  isplitl [H13]
  · iexists _; isplitr; swap; · iexact H13
    ipureintro
    rfl
  isplitl [H14]
  · iexists _; isplitr; swap; · iexact H14
    ipureintro
    rfl
  isplitl [H15]
  · iexists _; isplitr; swap; · iexact H15
    ipureintro
    rfl
  isplitl [H16]
  · iexists _; isplitr; swap; · iexact H16
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, codes0, codes2, codes3, codes4, sum0, sum2, sum3, sum4, rows_0, cols_0, lanes_0, rows_1, cols_1, lanes_1, rows_2, cols_2, lanes_2, rows_3, cols_3, lanes_3, rows_4, cols_4, lanes_4, win_full2, win_full3, slab_0 _ _ (slab_lt i) _ (off6_eq i hc4), slab_1 _ _ (slab_lt i) _ (off7_eq i hc4), slab_2 _ _ (slab_lt i) _ (off8_eq i hc4), slab_3 _ _ (slab_lt i) _ (off9_eq i hc4), slab_4 _ _ (slab_lt i) _ (off10_eq i hc4)]
    exact close_codes arg16.view _ _ _ _ _ _ _ _ _ _ _
  isplitl [H17]
  · iexists _; isplitr; swap; · iexact H17
    ipureintro
    rfl
  isplitl [H18]
  · iexists _; isplitr; swap; · iexact H18
    ipureintro
    rfl
  isplitl [H19]
  · iexists _; isplitr; swap; · iexact H19
    ipureintro
    rfl
  isplitl [H20]
  · iexists _; isplitr; swap; · iexact H20
    ipureintro
    rfl
  isplitl [H21]
  · iexists _; isplitr; swap; · iexact H21
    ipureintro
    rfl
  isplitl [H22]
  · iexists _; isplitr; swap; · iexact H22
    ipureintro
    rfl
  iexists _; isplitr; swap; · iexact H23
  ipureintro
  sl_unfold_run_names
  simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, codes0, codes2, codes3, codes4, sum0, sum2, sum3, sum4, rows_0, cols_0, lanes_0, rows_1, cols_1, lanes_1, rows_2, cols_2, lanes_2, rows_3, cols_3, lanes_3, rows_4, cols_4, lanes_4, win_full2, win_full3, slab_0 _ _ (slab_lt i) _ (off6_eq i hc4), slab_1 _ _ (slab_lt i) _ (off7_eq i hc4), slab_2 _ _ (slab_lt i) _ (off8_eq i hc4), slab_3 _ _ (slab_lt i) _ (off9_eq i hc4), slab_4 _ _ (slab_lt i) _ (off10_eq i hc4)]
  exact close_sum arg23.view _ _ _ _ _ _ _ _ _ _ _ _ _

end Cert.KernelIdeal.Hand

end
-- ==== Proof.Ideal.RunG.lean ====
/-
  The last step of a batch row: the last block of the second product, then the normalised rows and their codes.
-/
module

public import proofs.«01_k».proof.Proof.Ideal.Close

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 400000 in
theorem run_G (c : Dev nD) (i : grid0.Coords) (arg2 : Memref sig .tc .vmem S640x1536 .i8) (harg2 : arg2.IsWhole) (arg3 : Memref sig .tc .vmem S640x128 .f32) (harg3 : arg3.IsWhole) (arg4 : Memref sig .tc .vmem S640x1536 .f32) (harg4 : arg4.IsWhole) (arg5 : Memref sig .tc .vmem S768x1024 .i8) (harg5 : arg5.IsWhole) (arg6 : Memref sig .tc .vmem S1x12x1024 .f32) (harg6 : arg6.IsWhole) (arg7 : Memref sig .tc .vmem S1x1024 .f32) (harg7 : arg7.IsWhole) (arg8 : Memref sig .tc .vmem S512x1536 .i8) (harg8 : arg8.IsWhole) (arg9 : Memref sig .tc .vmem S8x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1x1536 .f32) (harg12 : arg12.IsWhole) (arg13 : Memref sig .tc .vmem S640x1536 .i8) (harg13 : arg13.IsWhole) (arg14 : Memref sig .tc .vmem S2x640 .f32) (harg14 : arg14.IsWhole) (arg15 : Memref sig .tc .vmem S640x1536 .f32) (harg15 : arg15.IsWhole) (arg16 : Memref sig .tc .vmem S640x1024 .i8) (harg16 : arg16.IsWhole) (arg17 : Memref sig .tc .vmem S2x640 .f32) (harg17 : arg17.IsWhole) (arg18 : Memref sig .tc .vmem S640x1536 .bf16) (harg18 : arg18.IsWhole) (arg19 : Memref sig .tc .vmem S6x640x1024 .f32) (harg19 : arg19.IsWhole) (arg20 : Memref sig .tc .vmem S640x128 .f32) (harg20 : arg20.IsWhole) (arg21 : Memref sig .tc .vmem S640x128 .f32) (harg21 : arg21.IsWhole) (arg22 : Memref sig .tc .vmem S640x128 .f32) (harg22 : arg22.IsWhole) (arg23 : Memref sig .tc .vmem S640x1536 .f32) (harg23 : arg23.IsWhole) (hc0 : ¬cond0 i) (hc1 : ¬cond1 i) (hc2 : ¬cond2 i) (hc3 : ¬cond3 i) (hc4 : cond4 i) (hc5 : cond5 i) (x2 : Vec F S640x1536 .i8) (x3 : Vec F S640x128 .f32) (x4 : Vec F S640x1536 .f32) (x5 : Vec F S768x1024 .i8) (x6 : Vec F S1x12x1024 .f32) (x7 : Vec F S1x1024 .f32) (x8 : Vec F S512x1536 .i8) (x9 : Vec F S8x1536 .f32) (x10 : Vec F S1x1536 .f32) (x11 : Vec F S1x1536 .f32) (x12 : Vec F S1x1536 .f32) (x13 : Vec F S640x1536 .i8) (x14 : Vec F S2x640 .f32) (x15 : Vec F S640x1536 .f32) (x16 : Vec F S640x1024 .i8) (x17 : Vec F S2x640 .f32) (x18 : Vec F S640x1536 .bf16) (x19 : Vec F S6x640x1024 .f32) (x20 : Vec F S640x128 .f32) (x21 : Vec F S640x128 .f32) (x22 : Vec F S640x128 .f32) (x23 : Vec F S640x1536 .f32) (K : PUnit → sProp (MT nD τ sig Unit (Elt F) ℕ (UR sig nD τ) ℕ))
   : iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (newOut (newSum ((i 1).val - 6) (slab_lt i) (wOut x8 x9) x19 x21 x23) x22 x10 x4 x11 x12) ∗ owns (c : Thread nD τ) arg14 fullShare (newOs (i 0).val (newSum ((i 1).val - 6) (slab_lt i) (wOut x8 x9) x19 x21 x23) x22 x10 x4 x11 x12 x14) ∗ owns (c : Thread nD τ) arg15 fullShare (newH2 (newSum ((i 1).val - 6) (slab_lt i) (wOut x8 x9) x19 x21 x23) x22 x10 x4 x11 x12) ∗ owns (c : Thread nD τ) arg16 fullShare (newCodes ((i 1).val - 6) (slab_lt i) x19 x21) ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare (newSum ((i 1).val - 6) (slab_lt i) (wOut x8 x9) x19 x21 x23)) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_eq_skeleton]; unfold cc0_ffn_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23
  sl_exec (disch := first | sl_exact hc0 | sl_exact hc1 | sl_exact hc2 | sl_exact hc3 | sl_exact hc4 | sl_exact hc5)
  sl_step
  iapply Hk
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  isplitl [H11]
  · iexists _; isplitr; swap; · iexact H11
    ipureintro
    rfl
  isplitl [H12]
  · iexists _; isplitr; swap; · iexact H12
    ipureintro
    rfl
  isplitl [H13]
  · iexists _; isplitr; swap; · iexact H13
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, codes0, codes2, codes3, codes4, sum0, sum2, sum3, sum4, rows_0, cols_0, lanes_0, rows_1, cols_1, lanes_1, rows_2, cols_2, lanes_2, rows_3, cols_3, lanes_3, rows_4, cols_4, lanes_4, win_full2, win_full3, slab_0 _ _ (slab_lt i) _ (off6_eq i hc4), slab_1 _ _ (slab_lt i) _ (off7_eq i hc4), slab_2 _ _ (slab_lt i) _ (off8_eq i hc4), slab_3 _ _ (slab_lt i) _ (off9_eq i hc4), slab_4 _ _ (slab_lt i) _ (off10_eq i hc4), norm0, norm2, norm3, norm4, scale0, scale2, scale3, scale4, out0, out2, out3, out4, os0, os2, os3, os4, sum_chunk_0 _ (slab_lt i), sum_chunk_1 _ (slab_lt i), sum_chunk_2 _ (slab_lt i), sum_chunk_3 _ (slab_lt i), sum_chunk_4 _ (slab_lt i)]
    exact close_out arg13.view _ _ _ _ _ _ _ _ _ _ _ _ _
  isplitl [H14]
  · iexists _; isplitr; swap; · iexact H14
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, codes0, codes2, codes3, codes4, sum0, sum2, sum3, sum4, rows_0, cols_0, lanes_0, rows_1, cols_1, lanes_1, rows_2, cols_2, lanes_2, rows_3, cols_3, lanes_3, rows_4, cols_4, lanes_4, win_full2, win_full3, slab_0 _ _ (slab_lt i) _ (off6_eq i hc4), slab_1 _ _ (slab_lt i) _ (off7_eq i hc4), slab_2 _ _ (slab_lt i) _ (off8_eq i hc4), slab_3 _ _ (slab_lt i) _ (off9_eq i hc4), slab_4 _ _ (slab_lt i) _ (off10_eq i hc4), norm0, norm2, norm3, norm4, scale0, scale2, scale3, scale4, out0, out2, out3, out4, os0, os2, os3, os4, sum_chunk_0 _ (slab_lt i), sum_chunk_1 _ (slab_lt i), sum_chunk_2 _ (slab_lt i), sum_chunk_3 _ (slab_lt i), sum_chunk_4 _ (slab_lt i)]
    exact close_os arg14.view _ _ _ _ _ _ _ _ _ _ _ _ _ _ _
  isplitl [H15]
  · iexists _; isplitr; swap; · iexact H15
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, codes0, codes2, codes3, codes4, sum0, sum2, sum3, sum4, rows_0, cols_0, lanes_0, rows_1, cols_1, lanes_1, rows_2, cols_2, lanes_2, rows_3, cols_3, lanes_3, rows_4, cols_4, lanes_4, win_full2, win_full3, slab_0 _ _ (slab_lt i) _ (off6_eq i hc4), slab_1 _ _ (slab_lt i) _ (off7_eq i hc4), slab_2 _ _ (slab_lt i) _ (off8_eq i hc4), slab_3 _ _ (slab_lt i) _ (off9_eq i hc4), slab_4 _ _ (slab_lt i) _ (off10_eq i hc4), norm0, norm2, norm3, norm4, scale0, scale2, scale3, scale4, out0, out2, out3, out4, os0, os2, os3, os4, sum_chunk_0 _ (slab_lt i), sum_chunk_1 _ (slab_lt i), sum_chunk_2 _ (slab_lt i), sum_chunk_3 _ (slab_lt i), sum_chunk_4 _ (slab_lt i)]
    exact close_h2 arg15.view _ _ _ _ _ _ _ _ _ _ _ _ _
  isplitl [H16]
  · iexists _; isplitr; swap; · iexact H16
    ipureintro
    sl_unfold_run_names
    simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, codes0, codes2, codes3, codes4, sum0, sum2, sum3, sum4, rows_0, cols_0, lanes_0, rows_1, cols_1, lanes_1, rows_2, cols_2, lanes_2, rows_3, cols_3, lanes_3, rows_4, cols_4, lanes_4, win_full2, win_full3, slab_0 _ _ (slab_lt i) _ (off6_eq i hc4), slab_1 _ _ (slab_lt i) _ (off7_eq i hc4), slab_2 _ _ (slab_lt i) _ (off8_eq i hc4), slab_3 _ _ (slab_lt i) _ (off9_eq i hc4), slab_4 _ _ (slab_lt i) _ (off10_eq i hc4)]
    exact close_codes arg16.view _ _ _ _ _ _ _ _ _ _ _
  isplitl [H17]
  · iexists _; isplitr; swap; · iexact H17
    ipureintro
    rfl
  isplitl [H18]
  · iexists _; isplitr; swap; · iexact H18
    ipureintro
    rfl
  isplitl [H19]
  · iexists _; isplitr; swap; · iexact H19
    ipureintro
    rfl
  isplitl [H20]
  · iexists _; isplitr; swap; · iexact H20
    ipureintro
    rfl
  isplitl [H21]
  · iexists _; isplitr; swap; · iexact H21
    ipureintro
    rfl
  isplitl [H22]
  · iexists _; isplitr; swap; · iexact H22
    ipureintro
    rfl
  iexists _; isplitr; swap; · iexact H23
  ipureintro
  sl_unfold_run_names
  simp only [readAt_window, cov_full, cov_hit, cov_skip_0_1, cov_skip_0_2, cov_skip_0_3, cov_skip_0_4, cov_skip_1_0, cov_skip_1_2, cov_skip_1_3, cov_skip_1_4, cov_skip_2_0, cov_skip_2_1, cov_skip_2_3, cov_skip_2_4, cov_skip_3_0, cov_skip_3_1, cov_skip_3_2, cov_skip_3_4, cov_skip_4_0, cov_skip_4_1, cov_skip_4_2, cov_skip_4_3, codes0, codes2, codes3, codes4, sum0, sum2, sum3, sum4, rows_0, cols_0, lanes_0, rows_1, cols_1, lanes_1, rows_2, cols_2, lanes_2, rows_3, cols_3, lanes_3, rows_4, cols_4, lanes_4, win_full2, win_full3, slab_0 _ _ (slab_lt i) _ (off6_eq i hc4), slab_1 _ _ (slab_lt i) _ (off7_eq i hc4), slab_2 _ _ (slab_lt i) _ (off8_eq i hc4), slab_3 _ _ (slab_lt i) _ (off9_eq i hc4), slab_4 _ _ (slab_lt i) _ (off10_eq i hc4)]
  exact close_sum arg23.view _ _ _ _ _ _ _ _ _ _ _ _ _

end Cert.KernelIdeal.Hand

end
-- ==== Proof.Ideal.Track.lean ====
/-
  The run of the kernel, tracked: each grid point takes the scratch buffers from one state to the next and leaves the results its state names.
-/
module

public import proofs.«01_k».proof.Proof.Ideal.State
public import proofs.«01_k».proof.Proof.Ideal.RunA
public import proofs.«01_k».proof.Proof.Ideal.RunB
public import proofs.«01_k».proof.Proof.Ideal.RunC
public import proofs.«01_k».proof.Proof.Ideal.RunD
public import proofs.«01_k».proof.Proof.Ideal.RunE
public import proofs.«01_k».proof.Proof.Ideal.RunG
public import Idealize.ShloMosaic.Lib.Pipeline.Cells
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves in each window's buffer: an input as found; the results of a batch at its last point; the two rows of scales as far
    as they are done; the codes of a slab at the steps of the second product. -/
def leaves (c : Dev nD) (w : Fin cfg0.W) (t : Fin cfg0.N) : ((cfg0.win w).block.Idx → Elt F (cfg0.win w).elt) → ((cfg0.win w).block.Idx → Elt F (cfg0.win w).elt) → Prop :=
  match w with
  | ⟨11, _⟩ => fun _ X => t.val % 12 = 11 → X = outB m c (t.val / 12)
  | ⟨12, _⟩ => fun _ X => X = osAt m c t.val
  | ⟨13, _⟩ => fun _ X => t.val % 12 = 11 → X = h2B m c (t.val / 12)
  | ⟨14, _⟩ => fun _ X => 6 ≤ t.val % 12 → X = codesB m c (t.val / 12) (t.val % 12 - 6)
  | ⟨15, _⟩ => fun _ X => X = fsAt m c t.val
  | _ => fun Y X => X = Y

/-- The scratch before point `n`: at the contents the point before leaves, when there is one. -/
def scratch (c : Dev nD) (n : ℕ) : sProp 𝕄 :=
  iprop(∃ (s0 : Vec F S640x1536 .bf16) (s1 : Vec F S6x640x1024 .f32) (s2 : Vec F S640x128 .f32) (s3 : Vec F S640x128 .f32) (s4 : Vec F S640x128 .f32) (s5 : Vec F S640x1536 .f32),
    ⌜n ≠ 0 → After m c (n - 1) s0 s1 s2 s3 s4 s5⌝
    ∗ owns (c : Thread nD τ) scM0 fullShare s0 ∗ owns (c : Thread nD τ) scM1 fullShare s1 ∗ owns (c : Thread nD τ) scM2 fullShare s2
    ∗ owns (c : Thread nD τ) scM3 fullShare s3 ∗ owns (c : Thread nD τ) scM4 fullShare s4 ∗ owns (c : Thread nD τ) scM5 fullShare s5
    ∗ (∃ r, prngReg (Name := ℕ) (U := UR sig nD τ) (Lvl := ℕ) c r))

/-- The proof data. -/
def rdat (c : Dev nD) : RDat τ (Elt F) Unit ℕ (UR sig nD τ) ℕ cfg0 c where
  A w := V m c (Pipeline.arrRef spec0 w)
  after := leaves m c
  Φ n := scratch m c n.val
  q _ := fullShare
  owed _ := 0

-- NO PHI
theorem coords0 (t : Fin cfg0.N) : (grid0.coords t 0).val = t.val / 12 := by
  have h : (grid0.coords t 0).val = t.val / 12 % 2 := Pipeline.Grid.coords_val t 0 (by decide) rfl
  have := lt_of_lt_of_eq t.isLt N_0
  rw [h]; omega
theorem coords1 (t : Fin cfg0.N) : (grid0.coords t 1).val = t.val % 12 := by
  have h : (grid0.coords t 1).val = t.val / 1 % 12 := Pipeline.Grid.coords_val t 1 (by decide) rfl
  rw [h, Nat.div_one]

theorem osAt_zero (c : Dev nD) {n : ℕ} (h : n = 0) : k0_pay2 = osAt m c n := by subst h; rfl
theorem fsAt_zero (c : Dev nD) {n : ℕ} (h : n = 0) : k0_pay1 = fsAt m c n := by subst h; rfl

theorem scratch_in (c : Dev nD) : (Pipeline.ΦA spec0 c : sProp 𝕄) ⊢ scratch m c 0 := by
  rw [PhiA_eq]
  unfold scratch
  iintro ⟨⟨⟨%s0, H0⟩, ⟨%s1, H1⟩, ⟨%s2, H2⟩, ⟨%s3, H3⟩, ⟨%s4, H4⟩, ⟨%s5, H5⟩⟩, Hg⟩
  iexists s0; iexists s1; iexists s2; iexists s3; iexists s4; iexists s5
  isplitr
  · ipureintro; exact fun h => absurd rfl h
  isplitl [H0]; · iexact H0
  isplitl [H1]; · iexact H1
  isplitl [H2]; · iexact H2
  isplitl [H3]; · iexact H3
  isplitl [H4]; · iexact H4
  isplitl [H5]; · iexact H5
  iexact Hg

theorem scratch_out (c : Dev nD) (n : ℕ) : scratch m c n ⊢ (Pipeline.ΦA spec0 c : sProp 𝕄) := by
  rw [PhiA_eq]
  unfold scratch
  iintro ⟨%s0, %s1, %s2, %s3, %s4, %s5, -, H0, H1, H2, H3, H4, H5, Hg⟩
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

/-- The body at a point, case A. -/
theorem body_A (c : Dev nD) (t : Fin cfg0.N) (hA : t.val % 24 = 0) (Y : (w : Fin cfg0.W) → (cfg0.win w).block.Idx → Elt F (cfg0.win w).elt)
    (h0 : Y 0 = in0 m c t) (h1 : Y 1 = in1 m c t) (h2 : Y 2 = in2 m c t) (h3 : Y 3 = in3 m c t) (h4 : Y 4 = in4 m c t) (h5 : Y 5 = in5 m c t) (h6 : Y 6 = in6 m c t) (h7 : Y 7 = in7 m c t) (h8 : Y 8 = in8 m c t) (h9 : Y 9 = in9 m c t) (h10 : Y 10 = in10 m c t)
    (h12 : t.val ≠ 0 → Y 12 = osAt m c (t.val - 1)) (h15 : t.val ≠ 0 → Y 15 = fsAt m c (t.val - 1)) :
    iprop(scratch m c t.val ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9)
    ∗ owns (c : Thread nD τ) (ms10 t) fullShare (Y 10)
    ∗ owns (c : Thread nD τ) (ms11 t) fullShare (Y 11)
    ∗ owns (c : Thread nD τ) (ms12 t) fullShare (Y 12)
    ∗ owns (c : Thread nD τ) (ms13 t) fullShare (Y 13)
    ∗ owns (c : Thread nD τ) (ms14 t) fullShare (Y 14)
    ∗ owns (c : Thread nD τ) (ms15 t) fullShare (Y 15))
      ⊢ wp frame (wpE (defs₀ (F := F)) Variants.none c none) Set.univ (bodyAt0 t) (fun _ => iprop(scratch m c (t.val + 1) ∗ (rdat m c).owesAt () t.castSucc
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X)
    ∗ (∃ X, ⌜(rdat m c).after 9 t (Y 9) X⌝ ∗ owns (c : Thread nD τ) (ms9 t) fullShare X)
    ∗ (∃ X, ⌜(rdat m c).after 10 t (Y 10) X⌝ ∗ owns (c : Thread nD τ) (ms10 t) fullShare X)
    ∗ (∃ X, ⌜(rdat m c).after 11 t (Y 11) X⌝ ∗ owns (c : Thread nD τ) (ms11 t) fullShare X)
    ∗ (∃ X, ⌜(rdat m c).after 12 t (Y 12) X⌝ ∗ owns (c : Thread nD τ) (ms12 t) fullShare X)
    ∗ (∃ X, ⌜(rdat m c).after 13 t (Y 13) X⌝ ∗ owns (c : Thread nD τ) (ms13 t) fullShare X)
    ∗ (∃ X, ⌜(rdat m c).after 14 t (Y 14) X⌝ ∗ owns (c : Thread nD τ) (ms14 t) fullShare X)
    ∗ (∃ X, ⌜(rdat m c).after 15 t (Y 15) X⌝ ∗ owns (c : Thread nD τ) (ms15 t) fullShare X))) := by
  have hN := lt_of_lt_of_eq t.isLt N_0
  have e0 := hcond0 t; have e1 := hcond1 t; have e2 := hcond2 t; have e3 := hcond3 t; have e4 := hcond4 t; have e5 := hcond5 t
  have c0 := coords0 t
  have c1 := coords1 t
  unfold bodyAt0 scratch
  iintro ⟨⟨%s0, %s1, %s2, %s3, %s4, %s5, %hp, HS0, HS1, HS2, HS3, HS4, HS5, Hg⟩, HO, H0, H1, H2, H3, H4, H5, H6, H7, H8, H9, H10, H11, H12, H13, H14, H15⟩
  have ha := after_first (m := m) (c := c) (t := t) (s1 := s1) (s3 := s3) (s4 := s4) (s5 := s5) (by omega) (c1.trans (by omega))
  rw [← h0, ← h1, ← h3, ← h4, ← h5] at ha
  iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) scM2 (Memref.isWhole_whole _) scM3 (Memref.isWhole_whole _) scM4 (Memref.isWhole_whole _) scM5 (Memref.isWhole_whole _)
    (e0.mpr (by omega)) (e1.mpr (by omega)) (e2.mpr (by omega)) (fun h => absurd (e3.mp h) (by omega)) (fun h => absurd (e4.mp h) (by omega)) (fun h => absurd (e5.mp h) (by omega))
    (Y 0) (Y 1) (Y 2) (Y 3) (Y 4) (Y 5) (Y 6) (Y 7) (Y 8) (Y 9) (Y 10) (Y 11) (Y 12) (Y 13) (Y 14) (Y 15) s0 s1 s2 s3 s4 s5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, HS0, HS1, HS2, HS3, HS4, HS5⟩
  isplitl [HS0 HS1 HS2 HS3 HS4 HS5 Hg]
  · iexists _; iexists _; iexists _; iexists _; iexists _; iexists _
    isplitr
    · ipureintro; exact fun _ => ha
    isplitl [HS0]; · iexact HS0
    isplitl [HS1]; · iexact HS1
    isplitl [HS2]; · iexact HS2
    isplitl [HS3]; · iexact HS3
    isplitl [HS4]; · iexact HS4
    isplitl [HS5]; · iexact HS5
    iexact Hg
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact fun h => absurd h (by omega)
  isplitl [H12]
  · iexists _; isplitr; swap; · iexact H12
    ipureintro; exact osAt_zero m c (by omega)
  isplitl [H13]
  · iexists _; isplitr; swap; · iexact H13
    ipureintro; exact fun h => absurd h (by omega)
  isplitl [H14]
  · iexists _; isplitr; swap; · iexact H14
    ipureintro; exact fun h => absurd h (by omega)
  iexists _; isplitr; swap; · iexact H15
  ipureintro; exact fsAt_zero m c (by omega)

/-- The body at a point, case B. -/
theorem body_B (c : Dev nD) (t : Fin cfg0.N) (hA : t.val % 24 = 12) (Y : (w : Fin cfg0.W) → (cfg0.win w).block.Idx → Elt F (cfg0.win w).elt)
    (h0 : Y 0 = in0 m c t) (h1 : Y 1 = in1 m c t) (h2 : Y 2 = in2 m c t) (h3 : Y 3 = in3 m c t) (h4 : Y 4 = in4 m c t) (h5 : Y 5 = in5 m c t) (h6 : Y 6 = in6 m c t) (h7 : Y 7 = in7 m c t) (h8 : Y 8 = in8 m c t) (h9 : Y 9 = in9 m c t) (h10 : Y 10 = in10 m c t)
    (h12 : t.val ≠ 0 → Y 12 = osAt m c (t.val - 1)) (h15 : t.val ≠ 0 → Y 15 = fsAt m c (t.val - 1)) :
    iprop(scratch m c t.val ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9)
    ∗ owns (c : Thread nD τ) (ms10 t) fullShare (Y 10)
    ∗ owns (c : Thread nD τ) (ms11 t) fullShare (Y 11)
    ∗ owns (c : Thread nD τ) (ms12 t) fullShare (Y 12)
    ∗ owns (c : Thread nD τ) (ms13 t) fullShare (Y 13)
    ∗ owns (c : Thread nD τ) (ms14 t) fullShare (Y 14)
    ∗ owns (c : Thread nD τ) (ms15 t) fullShare (Y 15))
      ⊢ wp frame (wpE (defs₀ (F := F)) Variants.none c none) Set.univ (bodyAt0 t) (fun _ => iprop(scratch m c (t.val + 1) ∗ (rdat m c).owesAt () t.castSucc
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X)
    ∗ (∃ X, ⌜(rdat m c).after 9 t (Y 9) X⌝ ∗ owns (c : Thread nD τ) (ms9 t) fullShare X)
    ∗ (∃ X, ⌜(rdat m c).after 10 t (Y 10) X⌝ ∗ owns (c : Thread nD τ) (ms10 t) fullShare X)
    ∗ (∃ X, ⌜(rdat m c).after 11 t (Y 11) X⌝ ∗ owns (c : Thread nD τ) (ms11 t) fullShare X)
    ∗ (∃ X, ⌜(rdat m c).after 12 t (Y 12) X⌝ ∗ owns (c : Thread nD τ) (ms12 t) fullShare X)
    ∗ (∃ X, ⌜(rdat m c).after 13 t (Y 13) X⌝ ∗ owns (c : Thread nD τ) (ms13 t) fullShare X)
    ∗ (∃ X, ⌜(rdat m c).after 14 t (Y 14) X⌝ ∗ owns (c : Thread nD τ) (ms14 t) fullShare X)
    ∗ (∃ X, ⌜(rdat m c).after 15 t (Y 15) X⌝ ∗ owns (c : Thread nD τ) (ms15 t) fullShare X))) := by
  have hN := lt_of_lt_of_eq t.isLt N_0
  have e0 := hcond0 t; have e1 := hcond1 t; have e2 := hcond2 t; have e3 := hcond3 t; have e4 := hcond4 t; have e5 := hcond5 t
  have c0 := coords0 t
  have c1 := coords1 t
  unfold bodyAt0 scratch
  iintro ⟨⟨%s0, %s1, %s2, %s3, %s4, %s5, %hp, HS0, HS1, HS2, HS3, HS4, HS5, Hg⟩, HO, H0, H1, H2, H3, H4, H5, H6, H7, H8, H9, H10, H11, H12, H13, H14, H15⟩
  have ha := after_first (m := m) (c := c) (t := t) (s1 := s1) (s3 := s3) (s4 := s4) (s5 := s5) (by omega) (c1.trans (by omega))
  rw [← h0, ← h1, ← h3, ← h4, ← h5] at ha
  iapply (run_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) scM2 (Memref.isWhole_whole _) scM3 (Memref.isWhole_whole _) scM4 (Memref.isWhole_whole _) scM5 (Memref.isWhole_whole _)
    (fun h => absurd (e0.mp h) (by omega)) (e1.mpr (by omega)) (e2.mpr (by omega)) (fun h => absurd (e3.mp h) (by omega)) (fun h => absurd (e4.mp h) (by omega)) (fun h => absurd (e5.mp h) (by omega))
    (Y 0) (Y 1) (Y 2) (Y 3) (Y 4) (Y 5) (Y 6) (Y 7) (Y 8) (Y 9) (Y 10) (Y 11) (Y 12) (Y 13) (Y 14) (Y 15) s0 s1 s2 s3 s4 s5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, HS0, HS1, HS2, HS3, HS4, HS5⟩
  isplitl [HS0 HS1 HS2 HS3 HS4 HS5 Hg]
  · iexists _; iexists _; iexists _; iexists _; iexists _; iexists _
    isplitr
    · ipureintro; exact fun _ => ha
    isplitl [HS0]; · iexact HS0
    isplitl [HS1]; · iexact HS1
    isplitl [HS2]; · iexact HS2
    isplitl [HS3]; · iexact HS3
    isplitl [HS4]; · iexact HS4
    isplitl [HS5]; · iexact HS5
    iexact Hg
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact fun h => absurd h (by omega)
  isplitl [H12]
  · iexists _; isplitr; swap; · iexact H12
    ipureintro; exact (h12 (by omega)).trans (osAt_stay (by omega) (by omega))
  isplitl [H13]
  · iexists _; isplitr; swap; · iexact H13
    ipureintro; exact fun h => absurd h (by omega)
  isplitl [H14]
  · iexists _; isplitr; swap; · iexact H14
    ipureintro; exact fun h => absurd h (by omega)
  iexists _; isplitr; swap; · iexact H15
  ipureintro; exact (h15 (by omega)).trans (fsAt_stay (by omega) (by omega))

/-- The body at a point, case C. -/
theorem body_C (c : Dev nD) (t : Fin cfg0.N) (hA : 1 ≤ t.val % 12) (hA' : t.val % 12 ≤ 5) (Y : (w : Fin cfg0.W) → (cfg0.win w).block.Idx → Elt F (cfg0.win w).elt)
    (h0 : Y 0 = in0 m c t) (h1 : Y 1 = in1 m c t) (h2 : Y 2 = in2 m c t) (h3 : Y 3 = in3 m c t) (h4 : Y 4 = in4 m c t) (h5 : Y 5 = in5 m c t) (h6 : Y 6 = in6 m c t) (h7 : Y 7 = in7 m c t) (h8 : Y 8 = in8 m c t) (h9 : Y 9 = in9 m c t) (h10 : Y 10 = in10 m c t)
    (h12 : t.val ≠ 0 → Y 12 = osAt m c (t.val - 1)) (h15 : t.val ≠ 0 → Y 15 = fsAt m c (t.val - 1)) :
    iprop(scratch m c t.val ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9)
    ∗ owns (c : Thread nD τ) (ms10 t) fullShare (Y 10)
    ∗ owns (c : Thread nD τ) (ms11 t) fullShare (Y 11)
    ∗ owns (c : Thread nD τ) (ms12 t) fullShare (Y 12)
    ∗ owns (c : Thread nD τ) (ms13 t) fullShare (Y 13)
    ∗ owns (c : Thread nD τ) (ms14 t) fullShare (Y 14)
    ∗ owns (c : Thread nD τ) (ms15 t) fullShare (Y 15))
      ⊢ wp frame (wpE (defs₀ (F := F)) Variants.none c none) Set.univ (bodyAt0 t) (fun _ => iprop(scratch m c (t.val + 1) ∗ (rdat m c).owesAt () t.castSucc
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X)
    ∗ (∃ X, ⌜(rdat m c).after 9 t (Y 9) X⌝ ∗ owns (c : Thread nD τ) (ms9 t) fullShare X)
    ∗ (∃ X, ⌜(rdat m c).after 10 t (Y 10) X⌝ ∗ owns (c : Thread nD τ) (ms10 t) fullShare X)
    ∗ (∃ X, ⌜(rdat m c).after 11 t (Y 11) X⌝ ∗ owns (c : Thread nD τ) (ms11 t) fullShare X)
    ∗ (∃ X, ⌜(rdat m c).after 12 t (Y 12) X⌝ ∗ owns (c : Thread nD τ) (ms12 t) fullShare X)
    ∗ (∃ X, ⌜(rdat m c).after 13 t (Y 13) X⌝ ∗ owns (c : Thread nD τ) (ms13 t) fullShare X)
    ∗ (∃ X, ⌜(rdat m c).after 14 t (Y 14) X⌝ ∗ owns (c : Thread nD τ) (ms14 t) fullShare X)
    ∗ (∃ X, ⌜(rdat m c).after 15 t (Y 15) X⌝ ∗ owns (c : Thread nD τ) (ms15 t) fullShare X))) := by
  have hN := lt_of_lt_of_eq t.isLt N_0
  have e0 := hcond0 t; have e1 := hcond1 t; have e2 := hcond2 t; have e3 := hcond3 t; have e4 := hcond4 t; have e5 := hcond5 t
  have c0 := coords0 t
  have c1 := coords1 t
  unfold bodyAt0 scratch
  iintro ⟨⟨%s0, %s1, %s2, %s3, %s4, %s5, %hp, HS0, HS1, HS2, HS3, HS4, HS5, Hg⟩, HO, H0, H1, H2, H3, H4, H5, H6, H7, H8, H9, H10, H11, H12, H13, H14, H15⟩
  have hp := hp (by omega)
  have ha := after_in (by omega) hA' c1 hp
  rw [← h1, ← h3, ← h4, ← h5] at ha
  iapply (run_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) scM2 (Memref.isWhole_whole _) scM3 (Memref.isWhole_whole _) scM4 (Memref.isWhole_whole _) scM5 (Memref.isWhole_whole _)
    (fun h => absurd (e0.mp h) (by omega)) (fun h => absurd (e1.mp h) (by omega)) (e2.mpr (by omega)) (fun h => absurd (e3.mp h) (by omega)) (fun h => absurd (e4.mp h) (by omega)) (fun h => absurd (e5.mp h) (by omega))
    (Y 0) (Y 1) (Y 2) (Y 3) (Y 4) (Y 5) (Y 6) (Y 7) (Y 8) (Y 9) (Y 10) (Y 11) (Y 12) (Y 13) (Y 14) (Y 15) s0 s1 s2 s3 s4 s5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, HS0, HS1, HS2, HS3, HS4, HS5⟩
  isplitl [HS0 HS1 HS2 HS3 HS4 HS5 Hg]
  · iexists _; iexists _; iexists _; iexists _; iexists _; iexists _
    isplitr
    · ipureintro; exact fun _ => ha
    isplitl [HS0]; · iexact HS0
    isplitl [HS1]; · iexact HS1
    isplitl [HS2]; · iexact HS2
    isplitl [HS3]; · iexact HS3
    isplitl [HS4]; · iexact HS4
    isplitl [HS5]; · iexact HS5
    iexact Hg
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact fun h => absurd h (by omega)
  isplitl [H12]
  · iexists _; isplitr; swap; · iexact H12
    ipureintro; exact (h12 (by omega)).trans (osAt_stay (by omega) (by omega))
  isplitl [H13]
  · iexists _; isplitr; swap; · iexact H13
    ipureintro; exact fun h => absurd h (by omega)
  isplitl [H14]
  · iexists _; isplitr; swap; · iexact H14
    ipureintro; exact fun h => absurd h (by omega)
  iexists _; isplitr; swap; · iexact H15
  ipureintro; exact (h15 (by omega)).trans (fsAt_stay (by omega) (by omega))

/-- The body at a point, case D. -/
theorem body_D (c : Dev nD) (t : Fin cfg0.N) (hA : t.val % 12 = 6) (Y : (w : Fin cfg0.W) → (cfg0.win w).block.Idx → Elt F (cfg0.win w).elt)
    (h0 : Y 0 = in0 m c t) (h1 : Y 1 = in1 m c t) (h2 : Y 2 = in2 m c t) (h3 : Y 3 = in3 m c t) (h4 : Y 4 = in4 m c t) (h5 : Y 5 = in5 m c t) (h6 : Y 6 = in6 m c t) (h7 : Y 7 = in7 m c t) (h8 : Y 8 = in8 m c t) (h9 : Y 9 = in9 m c t) (h10 : Y 10 = in10 m c t)
    (h12 : t.val ≠ 0 → Y 12 = osAt m c (t.val - 1)) (h15 : t.val ≠ 0 → Y 15 = fsAt m c (t.val - 1)) :
    iprop(scratch m c t.val ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9)
    ∗ owns (c : Thread nD τ) (ms10 t) fullShare (Y 10)
    ∗ owns (c : Thread nD τ) (ms11 t) fullShare (Y 11)
    ∗ owns (c : Thread nD τ) (ms12 t) fullShare (Y 12)
    ∗ owns (c : Thread nD τ) (ms13 t) fullShare (Y 13)
    ∗ owns (c : Thread nD τ) (ms14 t) fullShare (Y 14)
    ∗ owns (c : Thread nD τ) (ms15 t) fullShare (Y 15))
      ⊢ wp frame (wpE (defs₀ (F := F)) Variants.none c none) Set.univ (bodyAt0 t) (fun _ => iprop(scratch m c (t.val + 1) ∗ (rdat m c).owesAt () t.castSucc
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X)
    ∗ (∃ X, ⌜(rdat m c).after 9 t (Y 9) X⌝ ∗ owns (c : Thread nD τ) (ms9 t) fullShare X)
    ∗ (∃ X, ⌜(rdat m c).after 10 t (Y 10) X⌝ ∗ owns (c : Thread nD τ) (ms10 t) fullShare X)
    ∗ (∃ X, ⌜(rdat m c).after 11 t (Y 11) X⌝ ∗ owns (c : Thread nD τ) (ms11 t) fullShare X)
    ∗ (∃ X, ⌜(rdat m c).after 12 t (Y 12) X⌝ ∗ owns (c : Thread nD τ) (ms12 t) fullShare X)
    ∗ (∃ X, ⌜(rdat m c).after 13 t (Y 13) X⌝ ∗ owns (c : Thread nD τ) (ms13 t) fullShare X)
    ∗ (∃ X, ⌜(rdat m c).after 14 t (Y 14) X⌝ ∗ owns (c : Thread nD τ) (ms14 t) fullShare X)
    ∗ (∃ X, ⌜(rdat m c).after 15 t (Y 15) X⌝ ∗ owns (c : Thread nD τ) (ms15 t) fullShare X))) := by
  have hN := lt_of_lt_of_eq t.isLt N_0
  have e0 := hcond0 t; have e1 := hcond1 t; have e2 := hcond2 t; have e3 := hcond3 t; have e4 := hcond4 t; have e5 := hcond5 t
  have c0 := coords0 t
  have c1 := coords1 t
  unfold bodyAt0 scratch
  iintro ⟨⟨%s0, %s1, %s2, %s3, %s4, %s5, %hp, HS0, HS1, HS2, HS3, HS4, HS5, Hg⟩, HO, H0, H1, H2, H3, H4, H5, H6, H7, H8, H9, H10, H11, H12, H13, H14, H15⟩
  have hp := hp (by omega)
  obtain ⟨ha, hmx⟩ := after_mid hA (hq6 := slab_lt (grid0.coords t)) (by omega) hp
  have hco := codes_of (t := t) (by omega) (hq6 := slab_lt (grid0.coords t)) (by omega) ha
  rw [← h6, ← h7] at ha
  iapply (run_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) scM2 (Memref.isWhole_whole _) scM3 (Memref.isWhole_whole _) scM4 (Memref.isWhole_whole _) scM5 (Memref.isWhole_whole _)
    (fun h => absurd (e0.mp h) (by omega)) (fun h => absurd (e1.mp h) (by omega)) (fun h => absurd (e2.mp h) (by omega)) (e3.mpr (by omega)) (e4.mpr (by omega)) (fun h => absurd (e5.mp h) (by omega))
    (Y 0) (Y 1) (Y 2) (Y 3) (Y 4) (Y 5) (Y 6) (Y 7) (Y 8) (Y 9) (Y 10) (Y 11) (Y 12) (Y 13) (Y 14) (Y 15) s0 s1 s2 s3 s4 s5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, HS0, HS1, HS2, HS3, HS4, HS5⟩
  isplitl [HS0 HS1 HS2 HS3 HS4 HS5 Hg]
  · iexists _; iexists _; iexists _; iexists _; iexists _; iexists _
    isplitr
    · ipureintro; exact fun _ => ha
    isplitl [HS0]; · iexact HS0
    isplitl [HS1]; · iexact HS1
    isplitl [HS2]; · iexact HS2
    isplitl [HS3]; · iexact HS3
    isplitl [HS4]; · iexact HS4
    isplitl [HS5]; · iexact HS5
    iexact Hg
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact fun h => absurd h (by omega)
  isplitl [H12]
  · iexists _; isplitr; swap; · iexact H12
    ipureintro; exact (h12 (by omega)).trans (osAt_stay (by omega) (by omega))
  isplitl [H13]
  · iexists _; isplitr; swap; · iexact H13
    ipureintro; exact fun h => absurd h (by omega)
  isplitl [H14]
  · iexists _; isplitr; swap; · iexact H14
    ipureintro; exact fun _ => hco
  iexists _; isplitr; swap; · iexact H15
  ipureintro; exact by rw [h15 (by omega), c0, hmx]; exact fsAt_step hA

/-- The body at a point, case E. -/
theorem body_E (c : Dev nD) (t : Fin cfg0.N) (hA : 7 ≤ t.val % 12) (hA' : t.val % 12 ≤ 10) (Y : (w : Fin cfg0.W) → (cfg0.win w).block.Idx → Elt F (cfg0.win w).elt)
    (h0 : Y 0 = in0 m c t) (h1 : Y 1 = in1 m c t) (h2 : Y 2 = in2 m c t) (h3 : Y 3 = in3 m c t) (h4 : Y 4 = in4 m c t) (h5 : Y 5 = in5 m c t) (h6 : Y 6 = in6 m c t) (h7 : Y 7 = in7 m c t) (h8 : Y 8 = in8 m c t) (h9 : Y 9 = in9 m c t) (h10 : Y 10 = in10 m c t)
    (h12 : t.val ≠ 0 → Y 12 = osAt m c (t.val - 1)) (h15 : t.val ≠ 0 → Y 15 = fsAt m c (t.val - 1)) :
    iprop(scratch m c t.val ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9)
    ∗ owns (c : Thread nD τ) (ms10 t) fullShare (Y 10)
    ∗ owns (c : Thread nD τ) (ms11 t) fullShare (Y 11)
    ∗ owns (c : Thread nD τ) (ms12 t) fullShare (Y 12)
    ∗ owns (c : Thread nD τ) (ms13 t) fullShare (Y 13)
    ∗ owns (c : Thread nD τ) (ms14 t) fullShare (Y 14)
    ∗ owns (c : Thread nD τ) (ms15 t) fullShare (Y 15))
      ⊢ wp frame (wpE (defs₀ (F := F)) Variants.none c none) Set.univ (bodyAt0 t) (fun _ => iprop(scratch m c (t.val + 1) ∗ (rdat m c).owesAt () t.castSucc
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X)
    ∗ (∃ X, ⌜(rdat m c).after 9 t (Y 9) X⌝ ∗ owns (c : Thread nD τ) (ms9 t) fullShare X)
    ∗ (∃ X, ⌜(rdat m c).after 10 t (Y 10) X⌝ ∗ owns (c : Thread nD τ) (ms10 t) fullShare X)
    ∗ (∃ X, ⌜(rdat m c).after 11 t (Y 11) X⌝ ∗ owns (c : Thread nD τ) (ms11 t) fullShare X)
    ∗ (∃ X, ⌜(rdat m c).after 12 t (Y 12) X⌝ ∗ owns (c : Thread nD τ) (ms12 t) fullShare X)
    ∗ (∃ X, ⌜(rdat m c).after 13 t (Y 13) X⌝ ∗ owns (c : Thread nD τ) (ms13 t) fullShare X)
    ∗ (∃ X, ⌜(rdat m c).after 14 t (Y 14) X⌝ ∗ owns (c : Thread nD τ) (ms14 t) fullShare X)
    ∗ (∃ X, ⌜(rdat m c).after 15 t (Y 15) X⌝ ∗ owns (c : Thread nD τ) (ms15 t) fullShare X))) := by
  have hN := lt_of_lt_of_eq t.isLt N_0
  have e0 := hcond0 t; have e1 := hcond1 t; have e2 := hcond2 t; have e3 := hcond3 t; have e4 := hcond4 t; have e5 := hcond5 t
  have c0 := coords0 t
  have c1 := coords1 t
  unfold bodyAt0 scratch
  iintro ⟨⟨%s0, %s1, %s2, %s3, %s4, %s5, %hp, HS0, HS1, HS2, HS3, HS4, HS5, Hg⟩, HO, H0, H1, H2, H3, H4, H5, H6, H7, H8, H9, H10, H11, H12, H13, H14, H15⟩
  have hp := hp (by omega)
  have ha := after_out (by omega) (hq6 := slab_lt (grid0.coords t)) (by omega) hp
  have hco := codes_of (t := t) (by omega) (hq6 := slab_lt (grid0.coords t)) (by omega) ha
  rw [← h6, ← h7] at ha
  iapply (run_E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) scM2 (Memref.isWhole_whole _) scM3 (Memref.isWhole_whole _) scM4 (Memref.isWhole_whole _) scM5 (Memref.isWhole_whole _)
    (fun h => absurd (e0.mp h) (by omega)) (fun h => absurd (e1.mp h) (by omega)) (fun h => absurd (e2.mp h) (by omega)) (fun h => absurd (e3.mp h) (by omega)) (e4.mpr (by omega)) (fun h => absurd (e5.mp h) (by omega))
    (Y 0) (Y 1) (Y 2) (Y 3) (Y 4) (Y 5) (Y 6) (Y 7) (Y 8) (Y 9) (Y 10) (Y 11) (Y 12) (Y 13) (Y 14) (Y 15) s0 s1 s2 s3 s4 s5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, HS0, HS1, HS2, HS3, HS4, HS5⟩
  isplitl [HS0 HS1 HS2 HS3 HS4 HS5 Hg]
  · iexists _; iexists _; iexists _; iexists _; iexists _; iexists _
    isplitr
    · ipureintro; exact fun _ => ha
    isplitl [HS0]; · iexact HS0
    isplitl [HS1]; · iexact HS1
    isplitl [HS2]; · iexact HS2
    isplitl [HS3]; · iexact HS3
    isplitl [HS4]; · iexact HS4
    isplitl [HS5]; · iexact HS5
    iexact Hg
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact fun h => absurd h (by omega)
  isplitl [H12]
  · iexists _; isplitr; swap; · iexact H12
    ipureintro; exact (h12 (by omega)).trans (osAt_stay (by omega) (by omega))
  isplitl [H13]
  · iexists _; isplitr; swap; · iexact H13
    ipureintro; exact fun h => absurd h (by omega)
  isplitl [H14]
  · iexists _; isplitr; swap; · iexact H14
    ipureintro; exact fun _ => hco
  iexists _; isplitr; swap; · iexact H15
  ipureintro; exact (h15 (by omega)).trans (fsAt_stay (by omega) (by omega))

/-- The body at a point, case G. -/
theorem body_G (c : Dev nD) (t : Fin cfg0.N) (hA : t.val % 12 = 11) (Y : (w : Fin cfg0.W) → (cfg0.win w).block.Idx → Elt F (cfg0.win w).elt)
    (h0 : Y 0 = in0 m c t) (h1 : Y 1 = in1 m c t) (h2 : Y 2 = in2 m c t) (h3 : Y 3 = in3 m c t) (h4 : Y 4 = in4 m c t) (h5 : Y 5 = in5 m c t) (h6 : Y 6 = in6 m c t) (h7 : Y 7 = in7 m c t) (h8 : Y 8 = in8 m c t) (h9 : Y 9 = in9 m c t) (h10 : Y 10 = in10 m c t)
    (h12 : t.val ≠ 0 → Y 12 = osAt m c (t.val - 1)) (h15 : t.val ≠ 0 → Y 15 = fsAt m c (t.val - 1)) :
    iprop(scratch m c t.val ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9)
    ∗ owns (c : Thread nD τ) (ms10 t) fullShare (Y 10)
    ∗ owns (c : Thread nD τ) (ms11 t) fullShare (Y 11)
    ∗ owns (c : Thread nD τ) (ms12 t) fullShare (Y 12)
    ∗ owns (c : Thread nD τ) (ms13 t) fullShare (Y 13)
    ∗ owns (c : Thread nD τ) (ms14 t) fullShare (Y 14)
    ∗ owns (c : Thread nD τ) (ms15 t) fullShare (Y 15))
      ⊢ wp frame (wpE (defs₀ (F := F)) Variants.none c none) Set.univ (bodyAt0 t) (fun _ => iprop(scratch m c (t.val + 1) ∗ (rdat m c).owesAt () t.castSucc
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X)
    ∗ (∃ X, ⌜(rdat m c).after 9 t (Y 9) X⌝ ∗ owns (c : Thread nD τ) (ms9 t) fullShare X)
    ∗ (∃ X, ⌜(rdat m c).after 10 t (Y 10) X⌝ ∗ owns (c : Thread nD τ) (ms10 t) fullShare X)
    ∗ (∃ X, ⌜(rdat m c).after 11 t (Y 11) X⌝ ∗ owns (c : Thread nD τ) (ms11 t) fullShare X)
    ∗ (∃ X, ⌜(rdat m c).after 12 t (Y 12) X⌝ ∗ owns (c : Thread nD τ) (ms12 t) fullShare X)
    ∗ (∃ X, ⌜(rdat m c).after 13 t (Y 13) X⌝ ∗ owns (c : Thread nD τ) (ms13 t) fullShare X)
    ∗ (∃ X, ⌜(rdat m c).after 14 t (Y 14) X⌝ ∗ owns (c : Thread nD τ) (ms14 t) fullShare X)
    ∗ (∃ X, ⌜(rdat m c).after 15 t (Y 15) X⌝ ∗ owns (c : Thread nD τ) (ms15 t) fullShare X))) := by
  have hN := lt_of_lt_of_eq t.isLt N_0
  have e0 := hcond0 t; have e1 := hcond1 t; have e2 := hcond2 t; have e3 := hcond3 t; have e4 := hcond4 t; have e5 := hcond5 t
  have c0 := coords0 t
  have c1 := coords1 t
  unfold bodyAt0 scratch
  iintro ⟨⟨%s0, %s1, %s2, %s3, %s4, %s5, %hp, HS0, HS1, HS2, HS3, HS4, HS5, Hg⟩, HO, H0, H1, H2, H3, H4, H5, H6, H7, H8, H9, H10, H11, H12, H13, H14, H15⟩
  have hp := hp (by omega)
  have ha := after_out (by omega) (hq6 := slab_lt (grid0.coords t)) (by omega) hp
  have hco := codes_of (t := t) (by omega) (hq6 := slab_lt (grid0.coords t)) (by omega) ha
  obtain ⟨hr1, hr2, hr3⟩ := results_of hA ha
  rw [← h6, ← h7] at ha
  rw [← h6, ← h7, ← h8, ← h2, ← h9, ← h10] at hr1 hr2
  simp only [← h6, ← h7, ← h8, ← h2, ← h9, ← h10] at hr3
  iapply (run_G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) scM2 (Memref.isWhole_whole _) scM3 (Memref.isWhole_whole _) scM4 (Memref.isWhole_whole _) scM5 (Memref.isWhole_whole _)
    (fun h => absurd (e0.mp h) (by omega)) (fun h => absurd (e1.mp h) (by omega)) (fun h => absurd (e2.mp h) (by omega)) (fun h => absurd (e3.mp h) (by omega)) (e4.mpr (by omega)) (e5.mpr (by omega))
    (Y 0) (Y 1) (Y 2) (Y 3) (Y 4) (Y 5) (Y 6) (Y 7) (Y 8) (Y 9) (Y 10) (Y 11) (Y 12) (Y 13) (Y 14) (Y 15) s0 s1 s2 s3 s4 s5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, HS0, HS1, HS2, HS3, HS4, HS5⟩
  isplitl [HS0 HS1 HS2 HS3 HS4 HS5 Hg]
  · iexists _; iexists _; iexists _; iexists _; iexists _; iexists _
    isplitr
    · ipureintro; exact fun _ => ha
    isplitl [HS0]; · iexact HS0
    isplitl [HS1]; · iexact HS1
    isplitl [HS2]; · iexact HS2
    isplitl [HS3]; · iexact HS3
    isplitl [HS4]; · iexact HS4
    isplitl [HS5]; · iexact HS5
    iexact Hg
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact fun _ => hr2
  isplitl [H12]
  · iexists _; isplitr; swap; · iexact H12
    ipureintro; exact by rw [h12 (by omega), c0, hr3]; exact osAt_step hA
  isplitl [H13]
  · iexists _; isplitr; swap; · iexact H13
    ipureintro; exact fun _ => hr1
  isplitl [H14]
  · iexists _; isplitr; swap; · iexact H14
    ipureintro; exact fun _ => hco
  iexists _; isplitr; swap; · iexact H15
  ipureintro; exact (h15 (by omega)).trans (fsAt_stay (by omega) (by omega))

/-- The body at every point. -/
theorem sound_body (c : Dev nD) (t : Fin cfg0.N) (Y : (w : Fin cfg0.W) → (cfg0.win w).block.Idx → Elt F (cfg0.win w).elt)
    (h0 : Y 0 = in0 m c t) (h1 : Y 1 = in1 m c t) (h2 : Y 2 = in2 m c t) (h3 : Y 3 = in3 m c t) (h4 : Y 4 = in4 m c t) (h5 : Y 5 = in5 m c t) (h6 : Y 6 = in6 m c t) (h7 : Y 7 = in7 m c t) (h8 : Y 8 = in8 m c t) (h9 : Y 9 = in9 m c t) (h10 : Y 10 = in10 m c t)
    (h12 : t.val ≠ 0 → Y 12 = osAt m c (t.val - 1)) (h15 : t.val ≠ 0 → Y 15 = fsAt m c (t.val - 1)) :
    iprop(scratch m c t.val ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9)
    ∗ owns (c : Thread nD τ) (ms10 t) fullShare (Y 10)
    ∗ owns (c : Thread nD τ) (ms11 t) fullShare (Y 11)
    ∗ owns (c : Thread nD τ) (ms12 t) fullShare (Y 12)
    ∗ owns (c : Thread nD τ) (ms13 t) fullShare (Y 13)
    ∗ owns (c : Thread nD τ) (ms14 t) fullShare (Y 14)
    ∗ owns (c : Thread nD τ) (ms15 t) fullShare (Y 15))
      ⊢ wp frame (wpE (defs₀ (F := F)) Variants.none c none) Set.univ (bodyAt0 t) (fun _ => iprop(scratch m c (t.val + 1) ∗ (rdat m c).owesAt () t.castSucc
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X)
    ∗ (∃ X, ⌜(rdat m c).after 9 t (Y 9) X⌝ ∗ owns (c : Thread nD τ) (ms9 t) fullShare X)
    ∗ (∃ X, ⌜(rdat m c).after 10 t (Y 10) X⌝ ∗ owns (c : Thread nD τ) (ms10 t) fullShare X)
    ∗ (∃ X, ⌜(rdat m c).after 11 t (Y 11) X⌝ ∗ owns (c : Thread nD τ) (ms11 t) fullShare X)
    ∗ (∃ X, ⌜(rdat m c).after 12 t (Y 12) X⌝ ∗ owns (c : Thread nD τ) (ms12 t) fullShare X)
    ∗ (∃ X, ⌜(rdat m c).after 13 t (Y 13) X⌝ ∗ owns (c : Thread nD τ) (ms13 t) fullShare X)
    ∗ (∃ X, ⌜(rdat m c).after 14 t (Y 14) X⌝ ∗ owns (c : Thread nD τ) (ms14 t) fullShare X)
    ∗ (∃ X, ⌜(rdat m c).after 15 t (Y 15) X⌝ ∗ owns (c : Thread nD τ) (ms15 t) fullShare X))) := by
  by_cases hA : t.val % 24 = 0
  · exact body_A m c t hA Y h0 h1 h2 h3 h4 h5 h6 h7 h8 h9 h10 h12 h15
  by_cases hB : t.val % 24 = 12
  · exact body_B m c t hB Y h0 h1 h2 h3 h4 h5 h6 h7 h8 h9 h10 h12 h15
  by_cases hC : t.val % 12 ≤ 5
  · exact body_C m c t (by omega) hC Y h0 h1 h2 h3 h4 h5 h6 h7 h8 h9 h10 h12 h15
  by_cases hD : t.val % 12 = 6
  · exact body_D m c t hD Y h0 h1 h2 h3 h4 h5 h6 h7 h8 h9 h10 h12 h15
  by_cases hG : t.val % 12 = 11
  · exact body_G m c t hG Y h0 h1 h2 h3 h4 h5 h6 h7 h8 h9 h10 h12 h15
  · exact body_E m c t (by omega) (by omega) Y h0 h1 h2 h3 h4 h5 h6 h7 h8 h9 h10 h12 h15

theorem finds0 (c : Dev nD) (t : Fin cfg0.N) (X : (cfg0.win 0).block.Idx → Elt F (cfg0.win 0).elt) (h : (rdat m c).Finds 0 t X) : X = in0 m c t := by
  obtain ⟨d, hd⟩ := (rdat m c).finds_in_eq_fetched 0 rfl (fun _ _ _ => rfl) (fun _ _ _ h => h) t X h
  exact hd
theorem finds1 (c : Dev nD) (t : Fin cfg0.N) (X : (cfg0.win 1).block.Idx → Elt F (cfg0.win 1).elt) (h : (rdat m c).Finds 1 t X) : X = in1 m c t := by
  obtain ⟨d, hd⟩ := (rdat m c).finds_in_eq_fetched 1 rfl (fun _ _ _ => rfl) (fun _ _ _ h => h) t X h
  exact hd
theorem finds2 (c : Dev nD) (t : Fin cfg0.N) (X : (cfg0.win 2).block.Idx → Elt F (cfg0.win 2).elt) (h : (rdat m c).Finds 2 t X) : X = in2 m c t := by
  obtain ⟨d, hd⟩ := (rdat m c).finds_in_eq_fetched 2 rfl (fun _ _ _ => rfl) (fun _ _ _ h => h) t X h
  exact hd
theorem finds3 (c : Dev nD) (t : Fin cfg0.N) (X : (cfg0.win 3).block.Idx → Elt F (cfg0.win 3).elt) (h : (rdat m c).Finds 3 t X) : X = in3 m c t := by
  obtain ⟨d, hd⟩ := (rdat m c).finds_in_eq_fetched 3 rfl (fun _ _ _ => rfl) (fun _ _ _ h => h) t X h
  exact hd
theorem finds4 (c : Dev nD) (t : Fin cfg0.N) (X : (cfg0.win 4).block.Idx → Elt F (cfg0.win 4).elt) (h : (rdat m c).Finds 4 t X) : X = in4 m c t := by
  obtain ⟨d, hd⟩ := (rdat m c).finds_in_eq_fetched 4 rfl (fun _ _ _ => rfl) (fun _ _ _ h => h) t X h
  exact hd
theorem finds5 (c : Dev nD) (t : Fin cfg0.N) (X : (cfg0.win 5).block.Idx → Elt F (cfg0.win 5).elt) (h : (rdat m c).Finds 5 t X) : X = in5 m c t := by
  obtain ⟨d, hd⟩ := (rdat m c).finds_in_eq_fetched 5 rfl (fun _ _ _ => rfl) (fun _ _ _ h => h) t X h
  exact hd
theorem finds6 (c : Dev nD) (t : Fin cfg0.N) (X : (cfg0.win 6).block.Idx → Elt F (cfg0.win 6).elt) (h : (rdat m c).Finds 6 t X) : X = in6 m c t := by
  obtain ⟨d, hd⟩ := (rdat m c).finds_in_eq_fetched 6 rfl (fun _ _ _ => rfl) (fun _ _ _ h => h) t X h
  exact hd
theorem finds7 (c : Dev nD) (t : Fin cfg0.N) (X : (cfg0.win 7).block.Idx → Elt F (cfg0.win 7).elt) (h : (rdat m c).Finds 7 t X) : X = in7 m c t := by
  obtain ⟨d, hd⟩ := (rdat m c).finds_in_eq_fetched 7 rfl (fun _ _ _ => rfl) (fun _ _ _ h => h) t X h
  exact hd
theorem finds8 (c : Dev nD) (t : Fin cfg0.N) (X : (cfg0.win 8).block.Idx → Elt F (cfg0.win 8).elt) (h : (rdat m c).Finds 8 t X) : X = in8 m c t := by
  obtain ⟨d, hd⟩ := (rdat m c).finds_in_eq_fetched 8 rfl (fun _ _ _ => rfl) (fun _ _ _ h => h) t X h
  exact hd
theorem finds9 (c : Dev nD) (t : Fin cfg0.N) (X : (cfg0.win 9).block.Idx → Elt F (cfg0.win 9).elt) (h : (rdat m c).Finds 9 t X) : X = in9 m c t := by
  obtain ⟨d, hd⟩ := (rdat m c).finds_in_eq_fetched 9 rfl (fun _ _ _ => rfl) (fun _ _ _ h => h) t X h
  exact hd
theorem finds10 (c : Dev nD) (t : Fin cfg0.N) (X : (cfg0.win 10).block.Idx → Elt F (cfg0.win 10).elt) (h : (rdat m c).Finds 10 t X) : X = in10 m c t := by
  obtain ⟨d, hd⟩ := (rdat m c).finds_in_eq_fetched 10 rfl (fun _ _ _ => rfl) (fun _ _ _ h => h) t X h
  exact hd
theorem finds12 (c : Dev nD) (t : Fin cfg0.N) (X : (cfg0.win 12).block.Idx → Elt F (cfg0.win 12).elt) (h : (rdat m c).Finds 12 t X) (h0 : t.val ≠ 0) : X = osAt m c (t.val - 1) := by
  have hN := lt_of_lt_of_eq t.isLt N_0
  have hf : (cfg0.win 12).fetch t = false := rfl
  rcases (RDat.finds_of_pos (rd := rdat m c) hf h0 X).mp h with hfl | ⟨Y', _, hR⟩
  · have : (t.val - 1) % 24 = 23 := (flush0_12 _).mp hfl
    omega
  · exact hR
theorem finds15 (c : Dev nD) (t : Fin cfg0.N) (X : (cfg0.win 15).block.Idx → Elt F (cfg0.win 15).elt) (h : (rdat m c).Finds 15 t X) (h0 : t.val ≠ 0) : X = fsAt m c (t.val - 1) := by
  have hN := lt_of_lt_of_eq t.isLt N_0
  have hf : (cfg0.win 15).fetch t = false := rfl
  rcases (RDat.finds_of_pos (rd := rdat m c) hf h0 X).mp h with hfl | ⟨Y', _, hR⟩
  · have : (t.val - 1) % 24 = 23 := (flush0_15 _).mp hfl
    omega
  · exact hR

/-- The library's body obligation: `sound_body` restated. -/
theorem body_obligation (c : Dev nD) : (rdat (F := F) m c).BodyObligation (defs₀ (F := F)) Variants.none () Set.univ := fun t Y hY => by
  rw [bigSep_W0, bigSep_W0, defs_row]
  exact triple_restated (sound_body m c t Y (finds0 m c t _ (hY 0)) (finds1 m c t _ (hY 1)) (finds2 m c t _ (hY 2)) (finds3 m c t _ (hY 3)) (finds4 m c t _ (hY 4)) (finds5 m c t _ (hY 5)) (finds6 m c t _ (hY 6)) (finds7 m c t _ (hY 7)) (finds8 m c t _ (hY 8)) (finds9 m c t _ (hY 9)) (finds10 m c t _ (hY 10))
    (finds12 m c t _ (hY 12)) (finds15 m c t _ (hY 15))) rfl .rfl fun _ => .rfl

set_option backward.isDefEq.respectTransparency.types false in
/-- The run of @main: the arrays as the proof data say, every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl)
    (hin := fun c => scratch_in m c) (hout := fun c => scratch_out m c _) (Q' := _) (hQ' := fun _ h => h)

/-- A run that leaves the arrays as the proof data say leaves every argument as at launch. -/
theorem args_kept (rdat : (c : Dev nD) → RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c))⟩) h

/-- The frame: after every run the eleven arguments are as at launch and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (args_kept m ρ (rdat m) (fun _ _ => rfl) ((θ_run defs _ _).mono (fun _ h => h.1) (run_main m ρ)))
    ((θ_run defs _ _).mono (fun _ h => h.2) (run_main m ρ))

end Cert.KernelIdeal.Hand

end
-- ==== Proof.Ideal.Spec.lean ====
/-
  The arithmetic of the layer over the extended reals, one number at a time: a quarter-byte weight, the activation, the
  row scales and codes, the normalised rows.  Nothing here speaks of blocks, grid points or buffers.
-/
module

public import Idealize.ShloMosaic.Lib.Pointwise

@[expose] public section

set_option maxRecDepth 16384

noncomputable section

namespace Cert.Spec

open Idealize.ShloMosaic

/-! ## Constants -/

/-- 0.5, √2, 127, 1536 and the small term under the root, as the programs write them. -/
abbrev half : EReal := Ideal.ofBits .f32 1056964608#32
abbrev root2 : EReal := Ideal.ofBits .f32 1068827891#32
abbrev top127 : EReal := Ideal.ofBits .f32 1123942400#32
abbrev low127 : EReal := Ideal.ofBits .f32 3271426048#32
abbrev width : EReal := Ideal.ofBits .f32 1153433600#32
abbrev eps : EReal := Ideal.ofBits .f32 869711765#32
abbrev least : EReal := Ideal.ofBits .f32 4286578688#32

theorem least_eq : least = ⊥ := by
  simp [Ideal.ofBits, Ideal.ieee]
theorem top127_eq : top127 = ((127 : ℝ) : EReal) := by
  simp [Ideal.ofBits, Ideal.ieee, -EReal.coe_mul]
  norm_num
theorem low127_eq : low127 = ((-127 : ℝ) : EReal) := by
  simp [Ideal.ofBits, Ideal.ieee, -EReal.coe_mul, -EReal.coe_neg]
  norm_num
theorem width_eq : width = ((1536 : ℝ) : EReal) := by
  simp [Ideal.ofBits, Ideal.ieee, -EReal.coe_mul]
  norm_num
theorem eps_pos : 0 < eps := by
  simp [Ideal.ofBits, Ideal.ieee, -EReal.coe_mul]

/-! ## The operations on one number -/

theorem erf_eq (x : EReal) : FloatOps.erf (F := Ideal) (φ := .f32) x = Ideal.erf x := rfl
theorem absf_eq (x : EReal) : FloatOps.absf (F := Ideal) (φ := .f32) x = max x (-x) := rfl
theorem sitofp_eq {w : ℕ} (x : BitVec w) : (FloatOps.sitofp (F := Ideal) .bf16 x : EReal) = ((x.toInt : ℝ) : EReal) := rfl
theorem fptosi_eq (x : EReal) : FloatOps.fptosi (F := Ideal) (φ := .f32) 8 x = Ideal.fptosi 8 x := rfl

/-! ## Division, absolute values -/

theorem mul_div_one {s : EReal} (hs : s ≠ 0) (v : EReal) : v * Ideal.div 1 s = Ideal.div v s := by
  unfold Ideal.div
  rw [if_neg hs, if_neg hs, one_mul]

theorem abs_nonneg (x : EReal) : 0 ≤ max x (-x) := by
  rcases le_total 0 x with h | h
  · exact le_max_of_le_left h
  · exact le_max_of_le_right (EReal.neg_nonneg.2 h)

theorem mul_self_nonneg (x : EReal) : 0 ≤ x * x := by
  rcases le_total 0 x with h | h
  · exact EReal.mul_nonneg h h
  · rw [← neg_mul_neg]
    exact EReal.mul_nonneg (EReal.neg_nonneg.2 h) (EReal.neg_nonneg.2 h)

/-! ## Row scales and codes -/

/-- The largest absolute value of a row. -/
def amax {n : ℕ} (v : Fin n → EReal) : EReal := Finset.univ.fold max least (fun k => max (v k) (-(v k)))
/-- The scale of a row whose largest absolute value is `a`. -/
def scale (a : EReal) : EReal := if a = 0 then 1 else Ideal.div a top127
/-- A value in units of a scale, rounded and clipped. -/
def level (v s : EReal) : EReal := min top127 (max low127 (Ideal.liftRound Ideal.roundHalfEven (Ideal.div v s)))
/-- Its code. -/
def code (v s : EReal) : BitVec 8 := Ideal.fptosi 8 (level v s)

theorem amax_le_iff {n : ℕ} (v : Fin n → EReal) (z : EReal) : amax v ≤ z ↔ ∀ k, max (v k) (-(v k)) ≤ z := by
  unfold amax
  rw [Finset.fold_max_le, least_eq]
  simp

theorem scale_ne_zero (a : EReal) : scale a ≠ 0 := by
  unfold scale
  split
  · exact one_ne_zero
  · next h =>
    rw [top127_eq, Ideal.div_coe (by norm_num)]
    intro h0
    rcases mul_eq_zero.1 h0 with h0 | h0
    · exact h h0
    · norm_num at h0

theorem level_eq (v s : EReal) : ∃ z : ℤ, -127 ≤ z ∧ z ≤ 127 ∧ level v s = ((z : ℝ) : EReal) := by
  unfold level
  rw [top127_eq, low127_eq]
  generalize Ideal.div v s = w
  induction w with
  | bot => exact ⟨-127, by norm_num, by norm_num, by
      show min _ (max _ ⊥) = _
      rw [max_eq_left bot_le, min_eq_right (EReal.coe_le_coe_iff.2 (by norm_num))]
      norm_num⟩
  | top => exact ⟨127, by norm_num, by norm_num, by
      show min _ (max _ ⊤) = _
      rw [max_eq_right le_top, min_eq_left le_top]
      norm_num⟩
  | coe r =>
    refine ⟨min 127 (max (-127) (Ideal.roundHalfEven r)), ?_, ?_, ?_⟩
    · exact le_min (by norm_num) (le_max_left _ _)
    · exact min_le_left _ _
    · show min _ (max _ (((Ideal.roundHalfEven r : ℤ) : ℝ) : EReal)) = _
      rw [← EReal.coe_strictMono.monotone.map_max, ← EReal.coe_strictMono.monotone.map_min]
      push_cast
      rfl

/-- A code read back as a number is the level it stands for. -/
theorem toInt_code (v s : EReal) : (((code v s).toInt : ℝ) : EReal) = level v s := by
  obtain ⟨z, h1, h2, h⟩ := level_eq v s
  unfold code Ideal.fptosi
  rw [h, Ideal.toIntClamped_coe]
  have e : (if 0 ≤ (z : ℝ) then ⌊(z : ℝ)⌋ else ⌈(z : ℝ)⌉) = z := by simp
  rw [e, BitVec.toInt_ofInt]
  have e2 : max (-((2 ^ (8 - 1) : ℕ) : ℤ)) (min (((2 ^ (8 - 1) : ℕ) : ℤ) - 1) z) = z := by
    norm_num
    omega
  rw [e2, Int.bmod_def]
  norm_cast
  split <;> omega

/-! ## Four-bit weights -/

/-- The low half of a byte, read signed, and the high half. -/
def lo (x : BitVec 8) : BitVec 32 :=
  Scalar.select (IntOp.cmpi .sge (IntOp.andi (BitVec.setWidth 32 x) 15#32) 8#32)
    (IntOp.subi (IntOp.andi (BitVec.setWidth 32 x) 15#32) 16#32) (IntOp.andi (BitVec.setWidth 32 x) 15#32)
def hi (x : BitVec 8) : BitVec 32 :=
  Scalar.select (IntOp.cmpi .sge (IntOp.shrsi .vector (BitVec.setWidth 32 x) 4#32) 8#32)
    (IntOp.subi (IntOp.shrsi .vector (BitVec.setWidth 32 x) 4#32) 16#32) (IntOp.shrsi .vector (BitVec.setWidth 32 x) 4#32)

theorem lo_shift : ∀ x : BitVec 8, IntOp.shrsi .vector (IntOp.shli .vector (BitVec.setWidth 32 x) 28#32) 28#32 = lo x := by decide +kernel
theorem hi_shift : ∀ x : BitVec 8, IntOp.shrsi .vector (IntOp.shli .vector (BitVec.setWidth 32 x) 24#32) 28#32 = hi x := by decide +kernel

/-- The four-bit weight in row `i` of a column whose row pair `i / 2` is packed in `x`. -/
def nib (x : BitVec 8) (i : ℕ) : EReal := if i % 2 < 1 then (((lo x).toInt : ℝ) : EReal) else (((hi x).toInt : ℝ) : EReal)

/-! ## The activation and the normalised row -/

/-- The Gaussian error linear unit. -/
def gelu (v : EReal) : EReal := half * v * (1 + Ideal.erf (Ideal.div v root2))

/-- Row `u` less its mean. -/
def centred {n : ℕ} (u : Fin n → EReal) (j : Fin n) : EReal := u j - Ideal.div (∑ k, u k) width
/-- The root of the mean square of row `d`, the small term added. -/
def spread {n : ℕ} (d : Fin n → EReal) : EReal := Ideal.sqrt (Ideal.div (∑ k, d k * d k) width + eps)

theorem spread_ne_zero {n : ℕ} (d : Fin n → EReal) : spread d ≠ 0 := by
  unfold spread
  have h : 0 < Ideal.div (∑ k, d k * d k) width + eps := by
    refine lt_of_lt_of_le eps_pos ?_
    rw [width_eq, Ideal.div_coe (by norm_num)]
    refine le_add_of_nonneg_left (EReal.mul_nonneg (Finset.sum_nonneg fun k _ => mul_self_nonneg _) ?_)
    exact EReal.coe_nonneg.2 (by norm_num)
  generalize Ideal.div (∑ k, d k * d k) width + eps = w at h
  induction w with
  | bot => exact absurd h (by simp)
  | top => exact EReal.top_ne_zero
  | coe r =>
    have hr : 0 < r := EReal.coe_pos.1 h
    show (if r < 0 then ⊥ else ((Real.sqrt r : ℝ) : EReal)) ≠ 0
    rw [if_neg (not_lt.2 hr.le)]
    exact_mod_cast (Real.sqrt_pos.2 hr).ne'

/-- Row `u` normalised, stretched by `g` and moved by `b`. -/
def normed {n : ℕ} (u g b : Fin n → EReal) (j : Fin n) : EReal :=
  Ideal.div (centred u j) (spread (centred u)) * g j + b j

/-! ## The layer -/

/-- The arrays the layer reads: the codes of its input, their row scales, the input itself; the packed weights, their
    group scales and the biases of the two products; the stretch and shift of the normalisation. -/
structure Args where
  x : Vec Ideal ⟨2, ![1280, 1536]⟩ .i8
  r : Vec Ideal ⟨2, ![1280, 128]⟩ .f32
  h : Vec Ideal ⟨2, ![1280, 1536]⟩ .f32
  q1 : Vec Ideal ⟨2, ![768, 6144]⟩ .i8
  s1 : Vec Ideal ⟨2, ![12, 6144]⟩ .f32
  b1 : Vec Ideal ⟨2, ![1, 6144]⟩ .f32
  q2 : Vec Ideal ⟨2, ![3072, 1536]⟩ .i8
  s2 : Vec Ideal ⟨2, ![48, 1536]⟩ .f32
  b2 : Vec Ideal ⟨2, ![1, 1536]⟩ .f32
  g : Vec Ideal ⟨2, ![1, 1536]⟩ .f32
  b : Vec Ideal ⟨2, ![1, 1536]⟩ .f32

variable (A : Args)

/-- The weights of the two products. -/
def w1 (i : Fin 1536) (j : Fin 6144) : EReal :=
  nib (A.q1 (ix2 ⟨i.val / 2, by omega⟩ j)) i.val * A.s1 (ix2 ⟨i.val / 128, by omega⟩ j)
def w2 (i : Fin 6144) (j : Fin 1536) : EReal :=
  nib (A.q2 (ix2 ⟨i.val / 2, by omega⟩ j)) i.val * A.s2 (ix2 ⟨i.val / 128, by omega⟩ j)
/-- The first product, scaled. -/
def pre (R : Fin 1280) (J : Fin 6144) : EReal := (∑ i : Fin 1536, (((A.x (ix2 R i)).toInt : ℝ) : EReal) * w1 A i J) * A.r (ix2 R 0)
/-- The activation and its row scales. -/
def act (R : Fin 1280) (J : Fin 6144) : EReal := gelu (pre A R J + A.b1 (ix2 0 J))
def actScale (R : Fin 1280) : EReal := scale (amax (act A R))
/-- The second product of the activation's levels. -/
def prod (R : Fin 1280) (j : Fin 1536) : EReal := ∑ i : Fin 6144, level (act A R i) (actScale A R) * w2 A i j
/-- The row the normalisation takes, the result and its row scales. -/
def row (R : Fin 1280) (j : Fin 1536) : EReal := prod A R j * actScale A R + A.b2 (ix2 0 j) + A.h (ix2 R j)
def res (R : Fin 1280) (j : Fin 1536) : EReal := normed (row A R) (fun k => A.g (ix2 0 k)) (fun k => A.b (ix2 0 k)) j
def resScale (R : Fin 1280) : EReal := scale (amax (res A R))

end Cert.Spec

end
-- ==== Proof.Ideal.Blocks.lean ====
/-
  The blocks the windows bring in, read off the argument arrays.
-/
module

public import proofs.«01_k».proof.Proof.Ideal.Spec
public import proofs.«01_k».proof.Proof.Ideal.State
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Cert.Spec
open Idealize.SL Idealize.SL.Sem
open Idealize.ShloMosaic.Pipeline (Dat RDat Cfg Window)

/-- The arrays the layer reads, in a memory. -/
def argsOf (m : (ℓ : Loc nD τ sig) → Buf (Elt Ideal) ℓ) (c : Dev nD) : Args where
  x := m ((c : Thread nD τ).loc main_arg0)
  r := m ((c : Thread nD τ).loc main_arg1)
  h := m ((c : Thread nD τ).loc main_arg2)
  q1 := m ((c : Thread nD τ).loc main_arg3)
  s1 := m ((c : Thread nD τ).loc main_arg4)
  b1 := m ((c : Thread nD τ).loc main_arg5)
  q2 := m ((c : Thread nD τ).loc main_arg6)
  s2 := m ((c : Thread nD τ).loc main_arg7)
  b2 := m ((c : Thread nD τ).loc main_arg8)
  g := m ((c : Thread nD τ).loc main_arg9)
  b := m ((c : Thread nD τ).loc main_arg10)

variable (m : (ℓ : Loc nD τ sig) → Buf (Elt Ideal) ℓ) (c : Dev nD)

theorem V_main_v0 : V m c main_v0 = (broadcastInDim S1x12x6144 ![1, 2] bcast_S12x6144_S1x12x6144_1_2 (argsOf m c).s1 : (⟨S1x12x6144, .f32⟩ : BufTy).Contents (Elt Ideal)) := rfl

theorem idx0 : ∀ t : Fin cfg0.N, win0_0.index t = ![t.val / 12, 0] := (by decide +kernel : ∀ t : Fin grid0.N, win0_0.index t = ![t.val / 12, 0])
theorem idx1 : ∀ t : Fin cfg0.N, win0_1.index t = ![t.val / 12, 0] := (by decide +kernel : ∀ t : Fin grid0.N, win0_1.index t = ![t.val / 12, 0])
theorem idx2 : ∀ t : Fin cfg0.N, win0_2.index t = ![t.val / 12, 0] := (by decide +kernel : ∀ t : Fin grid0.N, win0_2.index t = ![t.val / 12, 0])
theorem idx3 : ∀ t : Fin cfg0.N, t.val % 12 ≤ 5 → win0_3.index t = ![0, t.val % 12] := (by decide +kernel : ∀ t : Fin grid0.N, t.val % 12 ≤ 5 → win0_3.index t = ![0, t.val % 12])
theorem idx4 : ∀ t : Fin cfg0.N, t.val % 12 ≤ 5 → win0_4.index t = ![0, 0, t.val % 12] := (by decide +kernel : ∀ t : Fin grid0.N, t.val % 12 ≤ 5 → win0_4.index t = ![0, 0, t.val % 12])
theorem idx5 : ∀ t : Fin cfg0.N, t.val % 12 ≤ 5 → win0_5.index t = ![0, t.val % 12] := (by decide +kernel : ∀ t : Fin grid0.N, t.val % 12 ≤ 5 → win0_5.index t = ![0, t.val % 12])
theorem idx6 : ∀ t : Fin cfg0.N, 6 ≤ t.val % 12 → win0_6.index t = ![t.val % 12 - 6, 0] := (by decide +kernel : ∀ t : Fin grid0.N, 6 ≤ t.val % 12 → win0_6.index t = ![t.val % 12 - 6, 0])
theorem idx7 : ∀ t : Fin cfg0.N, 6 ≤ t.val % 12 → win0_7.index t = ![t.val % 12 - 6, 0] := (by decide +kernel : ∀ t : Fin grid0.N, 6 ≤ t.val % 12 → win0_7.index t = ![t.val % 12 - 6, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])

theorem pt_val {b k : ℕ} (hb : b < 2) (hk : k < 12) : (pt (12 * b + k)).val = 12 * b + k := by
  show (12 * b + k) % 24 = _
  omega

theorem in0_apply (t : Fin cfg0.N) (b : ℕ) (h : t.val / 12 = b) (p : Fin 640) (q : Fin 1536) (hr : 640 * b + p.val < 1280) :
    in0 m c t (ix2 p q) = (argsOf m c).x (ix2 ⟨640 * b + p.val, hr⟩ q) := by
  unfold in0
  blk_simp [iblk]
  rw [V_main_arg0]
  refine congrArg (argsOf m c).x ?_
  blk_ext [idx0 t, h]
theorem in1_apply (t : Fin cfg0.N) (b : ℕ) (h : t.val / 12 = b) (p : Fin 640) (q : Fin 128) (hr : 640 * b + p.val < 1280) :
    in1 m c t (ix2 p q) = (argsOf m c).r (ix2 ⟨640 * b + p.val, hr⟩ q) := by
  unfold in1
  blk_simp [iblk]
  rw [V_main_arg1]
  refine congrArg (argsOf m c).r ?_
  blk_ext [idx1 t, h]
theorem in2_apply (t : Fin cfg0.N) (b : ℕ) (h : t.val / 12 = b) (p : Fin 640) (q : Fin 1536) (hr : 640 * b + p.val < 1280) :
    in2 m c t (ix2 p q) = (argsOf m c).h (ix2 ⟨640 * b + p.val, hr⟩ q) := by
  unfold in2
  blk_simp [iblk]
  rw [V_main_arg2]
  refine congrArg (argsOf m c).h ?_
  blk_ext [idx2 t, h]
theorem in3_apply (t : Fin cfg0.N) (k : ℕ) (h : t.val % 12 = k) (hk : k < 6) (p : Fin 768) (q : Fin 1024) (hr : 1024 * k + q.val < 6144) :
    in3 m c t (ix2 p q) = (argsOf m c).q1 (ix2 p ⟨1024 * k + q.val, hr⟩) := by
  unfold in3
  blk_simp [iblk]
  rw [V_main_arg3]
  refine congrArg (argsOf m c).q1 ?_
  blk_ext [idx3 t (by omega), h]
theorem in5_apply (t : Fin cfg0.N) (k : ℕ) (h : t.val % 12 = k) (hk : k < 6) (p : Fin 1) (q : Fin 1024) (hr : 1024 * k + q.val < 6144) :
    in5 m c t (ix2 p q) = (argsOf m c).b1 (ix2 p ⟨1024 * k + q.val, hr⟩) := by
  unfold in5
  blk_simp [iblk]
  rw [V_main_arg5]
  refine congrArg (argsOf m c).b1 ?_
  blk_ext [idx5 t (by omega), h]
theorem in6_apply (t : Fin cfg0.N) (k : ℕ) (h : t.val % 12 = 6 + k) (p : Fin 512) (q : Fin 1536) (hr : 512 * k + p.val < 3072) :
    in6 m c t (ix2 p q) = (argsOf m c).q2 (ix2 ⟨512 * k + p.val, hr⟩ q) := by
  unfold in6
  blk_simp [iblk]
  rw [V_main_arg6]
  refine congrArg (argsOf m c).q2 ?_
  blk_ext [idx6 t (by omega), h]
theorem in7_apply (t : Fin cfg0.N) (k : ℕ) (h : t.val % 12 = 6 + k) (p : Fin 8) (q : Fin 1536) (hr : 8 * k + p.val < 48) :
    in7 m c t (ix2 p q) = (argsOf m c).s2 (ix2 ⟨8 * k + p.val, hr⟩ q) := by
  unfold in7
  blk_simp [iblk]
  rw [V_main_arg7]
  refine congrArg (argsOf m c).s2 ?_
  blk_ext [idx7 t (by omega), h]
theorem in8_apply (t : Fin cfg0.N) (q : Fin 1536) : in8 m c t (ix2 0 q) = (argsOf m c).b2 (ix2 0 q) := by
  unfold in8
  blk_simp [iblk]
  rw [V_main_arg8]
  refine congrArg (argsOf m c).b2 ?_
  blk_ext [idx8 t]
theorem in9_apply (t : Fin cfg0.N) (q : Fin 1536) : in9 m c t (ix2 0 q) = (argsOf m c).g (ix2 0 q) := by
  unfold in9
  blk_simp [iblk]
  rw [V_main_arg9]
  refine congrArg (argsOf m c).g ?_
  blk_ext [idx9 t]
theorem in10_apply (t : Fin cfg0.N) (q : Fin 1536) : in10 m c t (ix2 0 q) = (argsOf m c).b (ix2 0 q) := by
  unfold in10
  blk_simp [iblk]
  rw [V_main_arg10]
  refine congrArg (argsOf m c).b ?_
  blk_ext [idx10 t]
theorem in4_apply (t : Fin cfg0.N) (k : ℕ) (h : t.val % 12 = k) (hk : k < 6) (i : Fin 12) (q : Fin 1024) (hr : 1024 * k + q.val < 6144) :
    in4 m c t (ix3 0 i q) = (argsOf m c).s1 (ix2 i ⟨1024 * k + q.val, hr⟩) := by
  have e1 : ((win0_4.blk t).view.emb (ix3 0 i q) 1 : ℕ) = i.val := by
    blk_simp [idx4 t (by omega), h]
  have e2 : ((win0_4.blk t).view.emb (ix3 0 i q) 2 : ℕ) = 1024 * k + q.val := by
    blk_simp [idx4 t (by omega), h]
    show k * 1024 + q.val = _
    omega
  unfold in4
  blk_simp [iblk]
  rw [V_main_v0]
  unfold broadcastInDim
  refine congrArg (argsOf m c).s1 (funext fun a => Fin.ext ?_)
  fin_cases a
  · exact e1
  · exact e2

end Cert.KernelIdeal.Hand

end
-- ==== Proof.Ideal.ReadBase.lean ====
/-
  Chunks of rows read at a place, and the unpacked weights read at a place.
-/
module

public import proofs.«01_k».proof.Proof.Ideal.Spec
public import proofs.«01_k».proof.Proof.Ideal.Chunks

@[expose] public section

set_option maxRecDepth 16384

noncomputable section

namespace Cert.KernelIdeal.Hand

open Cert.KernelIdeal Cert.KernelIdeal.Gen
open Idealize.ShloMosaic Cert.Spec

variable {α : Type}

/-- The chunk row `r` lies in, and its place there. -/
abbrev chunk (r : Fin 640) : Fin 5 := ⟨r.val / 128, Nat.div_lt_of_lt_mul r.isLt⟩
abbrev place (r : Fin 640) : Fin 128 := ⟨r.val % 128, Nat.mod_lt _ (by decide)⟩

theorem byRows_apply {n : ℕ} (g : Fin 5 → (⟨2, ![128, n]⟩ : Shape).Idx → α) (r : Fin 640) (j : Fin n) : byRows g (ix2 r j) = g (chunk r) (ix2 (place r) j) := rfl
theorem byLanes_apply (g : Fin 5 → S2x128.Idx → α) (i : Fin 2) (l : Fin 640) : byLanes g (ix2 i l) = g (chunk l) (ix2 i (place l)) := rfl

theorem rowsOf_apply {n : ℕ} (x : (⟨2, ![640, n]⟩ : Shape).Idx → α) (k : Fin 5) (p : Fin 128) (j : Fin n) :
    rowsOf x k (ix2 p j) = x (ix2 ⟨128 * k.val + p.val, by omega⟩ j) := by
  refine congrArg x (funext fun a => Fin.ext ?_)
  fin_cases a
  · show 128 * k.val + 1 * p.val = 128 * k.val + p.val; omega
  · show 0 + 1 * j.val = j.val; omega
theorem colOf_apply (x : S640x128.Idx → α) (k : Fin 5) (p : Fin 128) : colOf x k (ix2 p 0) = x (ix2 ⟨128 * k.val + p.val, by omega⟩ 0) := by
  refine congrArg x (funext fun a => Fin.ext ?_)
  fin_cases a
  · show 128 * k.val + 1 * p.val = 128 * k.val + p.val; omega
  · rfl
theorem slabOf_apply (x : S6x640x1024.Idx → α) (m : ℕ) (hm : m < 6) (k : Fin 5) (h) (p : Fin 128) (j : Fin 1024) :
    slabOf x m k h (ix3 0 p j) = x (ix3 ⟨m, hm⟩ ⟨128 * k.val + p.val, by omega⟩ j) := by
  refine congrArg x (funext fun a => Fin.ext ?_)
  fin_cases a
  · rfl
  · show 128 * k.val + 1 * p.val = 128 * k.val + p.val; omega
  · show 0 + 1 * j.val = j.val; omega
theorem lanesOf_apply (x : S2x640.Idx → α) (k : Fin 5) (i : Fin 2) (p : Fin 128) : lanesOf x k (ix2 i p) = x (ix2 i ⟨128 * k.val + p.val, by omega⟩) := by
  refine congrArg x (funext fun a => Fin.ext ?_)
  fin_cases a
  · show 0 + 1 * i.val = i.val; omega
  · show 128 * k.val + 1 * p.val = 128 * k.val + p.val; omega

/-- Row `r` of a chunk is row `r`. -/
theorem row_eq (r : Fin 640) (h : 128 * (r.val / 128) + r.val % 128 < 640) : (⟨128 * (r.val / 128) + r.val % 128, h⟩ : Fin 640) = r := Fin.ext (by
  show 128 * (r.val / 128) + r.val % 128 = r.val; omega)

theorem sel_eq {β : Type} (a b : BitVec 32) (x y : β) : Scalar.select (IntOp.cmpi .eq a b) x y = if a = b then x else y := by
  unfold Scalar.select IntOp.cmpi
  by_cases h : a = b
  · subst h; simp
  · have hb : (a == b) = false := by simpa using h
    rw [if_neg h]
    simp [hb]

/-- The sum down a column that keeps one entry. -/
theorem pickIf (n : ℕ) (hn : n < 128) (g : Fin 128 → EReal) :
    (∑ x : Fin 128, if BitVec.ofNat 32 x.val = BitVec.ofNat 32 n then g x else 0) = g ⟨n, hn⟩ := by
  have e : ∀ x : Fin 128, (if BitVec.ofNat 32 x.val = BitVec.ofNat 32 n then g x else 0) = if x = ⟨n, hn⟩ then g x else 0 := fun x => by
    refine if_congr ⟨fun h => Fin.ext ?_, fun h => by rw [h]⟩ rfl rfl
    have h := congrArg BitVec.toNat h
    rw [BitVec.toNat_ofNat, BitVec.toNat_ofNat, Nat.mod_eq_of_lt (by omega), Nat.mod_eq_of_lt (by omega)] at h
    exact h
  rw [Finset.sum_congr rfl fun x _ => e x, Finset.sum_ite_eq' Finset.univ]
  simp

theorem pick (n : ℕ) (hn : n < 128) (g : Fin 128 → EReal) :
    (∑ x : Fin 128, Scalar.select (IntOp.cmpi .eq (BitVec.ofNat 32 x.val) (BitVec.ofNat 32 n)) (g x) 0) = g ⟨n, hn⟩ := by
  simp only [sel_eq]
  exact pickIf n hn g

theorem w_in (x : Vec Ideal S768x1024 .i8) (s : Vec Ideal S1x12x1024 .f32) (i : Fin 1536) (j : Fin 1024) :
    (wIn x s (ix2 i j) : EReal) = nib (x (ix2 ⟨i.val / 2, by omega⟩ j)) i.val * s (ix3 0 ⟨i.val / 128, by omega⟩ j) := by
  unfold wIn
  rw [full2_eq, full3_eq]
  pointwise [k0_pay12]
  simp only [lo_shift, hi_shift, sitofp_eq, dite_eq_ite]
  unfold nib
  split <;> rfl

theorem w_out (x : Vec Ideal S512x1536 .i8) (s : Vec Ideal S8x1536 .f32) (i : Fin 1024) (j : Fin 1536) :
    (wOut x s (ix2 i j) : EReal) = nib (x (ix2 ⟨i.val / 2, by omega⟩ j)) i.val * s (ix2 ⟨i.val / 128, by omega⟩ j) := by
  unfold wOut
  rw [full2_eq, full2_eq]
  pointwise [k0_pay42]
  simp only [lo_shift, hi_shift, sitofp_eq, dite_eq_ite]
  unfold nib
  split <;> rfl

end Cert.KernelIdeal.Hand

end
-- ==== Proof.Ideal.ReadIn.lean ====
/-
  The steps of the first product read at a place: the activation and the lane maxima.
-/
module

public import proofs.«01_k».proof.Proof.Ideal.ReadBase

@[expose] public section

set_option maxRecDepth 16384

noncomputable section

namespace Cert.KernelIdeal.Hand

open Cert.KernelIdeal Cert.KernelIdeal.Gen
open Idealize.ShloMosaic Cert.Spec

theorem act_raw (W : FVec Ideal S1536x1024 .bf16) (x : Vec Ideal S128x1536 .bf16) (s : Vec Ideal S128x1 .f32) (b : Vec Ideal S1x1024 .f32) (i : Fin 128) (j : Fin 1024) :
    (k0_pay27 (F := Ideal) (k0_pay26 W x s) b (ix2 i j) : EReal) = gelu ((∑ k : Fin 1536, x (ix2 i k) * W (ix2 k j)) * s (ix2 i 0) + b (ix2 0 j)) := by
  pointwise [k0_pay27, k0_pay26]
  simp only [erf_eq, gelu]

theorem act_apply (W : FVec Ideal S1536x1024 .bf16) (hb : Vec Ideal S640x1536 .bf16) (r : Vec Ideal S640x128 .f32) (b : Vec Ideal S1x1024 .f32) (p : Fin 640) (q : Fin 1024) :
    (byRows (actC W hb r b) (ix2 p q) : EReal) = gelu ((∑ k : Fin 1536, hb (ix2 p k) * W (ix2 k q)) * r (ix2 p 0) + b (ix2 0 q)) := by
  rw [byRows_apply]
  unfold actC prodC
  rw [act_raw, full2_eq]
  simp only [rowsOf_apply, colOf_apply, row_eq]

/-- The larger of `o` and the absolute values of eight numbers. -/
def max8 (o : EReal) (v : Fin 8 → EReal) : EReal :=
  max (max (max (max (max (max (max (max o (max (v 0) (-(v 0)))) (max (v 1) (-(v 1)))) (max (v 2) (-(v 2)))) (max (v 3) (-(v 3)))) (max (v 4) (-(v 4)))) (max (v 5) (-(v 5)))) (max (v 6) (-(v 6)))) (max (v 7) (-(v 7)))

theorem max_raw (V : FVec Ideal S128x1024 .f32) (b : Vec Ideal S1x1024 .f32) (o : Vec Ideal S128x128 .f32) (i : Fin 128) (j : Fin 128) :
    (k0_pay29 (F := Ideal) V b o (ix2 i j) : EReal) = max8 (o (ix2 i j)) (fun c => k0_pay27 (F := Ideal) V b (ix2 i ⟨128 * c.val + j.val, by omega⟩)) := by
  unfold k0_pay29
  pointwise
  simp only [absf_eq, max8]
  have e : (⟨128 * (0 : Fin 8).val + j.val, by omega⟩ : Fin 1024) = ⟨j.val, by omega⟩ := Fin.ext (by
    show 128 * 0 + j.val = j.val
    omega)
  rw [e]
  rfl

theorem max8_le (o : EReal) (v : Fin 8 → EReal) (z : EReal) : max8 o v ≤ z ↔ o ≤ z ∧ ∀ c, max (v c) (-(v c)) ≤ z := by
  simp only [max8, Fin.forall_fin_succ, IsEmpty.forall_iff, and_true]
  rw [max_le_iff, max_le_iff, max_le_iff, max_le_iff, max_le_iff, max_le_iff, max_le_iff, max_le_iff]
  simp only [and_assoc]
  rfl

theorem max_apply (W : FVec Ideal S1536x1024 .bf16) (hb : Vec Ideal S640x1536 .bf16) (r : Vec Ideal S640x128 .f32) (b : Vec Ideal S1x1024 .f32) (old : Vec Ideal S640x128 .f32)
    (p : Fin 640) (l : Fin 128) :
    (newMax W hb r b old (ix2 p l) : EReal) = max8 (old (ix2 p l)) (fun c => byRows (actC W hb r b) (ix2 p ⟨128 * c.val + l.val, by omega⟩)) := by
  unfold newMax
  rw [byRows_apply]
  unfold maxC
  rw [max_raw]
  simp only [rowsOf_apply, row_eq]
  rfl

end Cert.KernelIdeal.Hand

end
-- ==== Proof.Ideal.ReadMid.lean ====
/-
  The steps of the second product read at a place: the scales, the codes and the running sum.
-/
module

public import proofs.«01_k».proof.Proof.Ideal.ReadBase

@[expose] public section

set_option maxRecDepth 16384

noncomputable section

namespace Cert.KernelIdeal.Hand

open Cert.KernelIdeal Cert.KernelIdeal.Gen
open Idealize.ShloMosaic Cert.Spec

theorem scale_raw (v : Vec Ideal S640x128 .f32) (i : Fin 640) (j : Fin 128) :
    (k0_pay33 (F := Ideal) v (ix2 i j) : EReal) = scale (Finset.univ.fold max least fun l : Fin 128 => v (ix2 i l)) := by
  pointwise [k0_pay33]
  simp only [scale]

theorem inv_apply (v : Vec Ideal S640x128 .f32) (i : Fin 640) (j : Fin 128) :
    (k0_pay35 (F := Ideal) (full2 v) (ix2 i j) : EReal) = Ideal.div 1 (scale (Finset.univ.fold max least fun l : Fin 128 => v (ix2 i l))) := by
  rw [full2_eq, ← scale_raw v i j]
  pointwise [k0_pay35]

theorem rep_apply (v : Vec Ideal S640x128 .f32) (i : Fin 640) (j : Fin 128) :
    (k0_pay34 (F := Ideal) (full2 v) (ix2 i j) : EReal) = scale (Finset.univ.fold max least fun l : Fin 128 => v (ix2 i l)) := by
  rw [full2_eq, ← scale_raw v i j]
  pointwise [k0_pay34]

/-- A value times a factor, rounded and clipped. -/
def clip (v : EReal) : EReal := min top127 (max low127 (Ideal.liftRound Ideal.roundHalfEven v))

theorem codes_raw (v : Vec Ideal S1x128x1024 .f32) (s : Vec Ideal S128x1 .f32) (i : Fin 128) (j : Fin 1024) :
    k0_pay48 (F := Ideal) v s (ix2 i j) = Ideal.fptosi 8 (clip (v (ix3 0 i j) * s (ix2 i 0))) := by
  pointwise [k0_pay48, k0_pay47]
  simp only [fptosi_eq, clip]

theorem sum_raw (W : FVec Ideal S1024x1536 .bf16) (v : Vec Ideal S1x128x1024 .f32) (s : Vec Ideal S128x1 .f32) (o : Vec Ideal S128x1536 .f32) (i : Fin 128) (j : Fin 1536) :
    (k0_pay49 (F := Ideal) W v s o (ix2 i j) : EReal) = o (ix2 i j) + ∑ k : Fin 1024, clip (v (ix3 0 i k) * s (ix2 i 0)) * W (ix2 k j) := by
  pointwise [k0_pay49, k0_pay47]
  simp only [clip]

theorem codes_apply (m : ℕ) (hm : m < 6) (f : Vec Ideal S6x640x1024 .f32) (inv : Vec Ideal S640x128 .f32) (p : Fin 640) (q : Fin 1024) :
    newCodes m hm f inv (ix2 p q) = Ideal.fptosi 8 (clip (f (ix3 ⟨m, hm⟩ p q) * inv (ix2 p 0))) := by
  unfold newCodes
  rw [byRows_apply]
  unfold codesC
  rw [codes_raw, slabOf_apply _ _ hm]
  simp only [colOf_apply, row_eq]

theorem sum_apply (m : ℕ) (hm : m < 6) (W : FVec Ideal S1024x1536 .bf16) (f : Vec Ideal S6x640x1024 .f32) (inv : Vec Ideal S640x128 .f32) (old : Vec Ideal S640x1536 .f32)
    (p : Fin 640) (j : Fin 1536) :
    (newSum m hm W f inv old (ix2 p j) : EReal) = old (ix2 p j) + ∑ k : Fin 1024, clip (f (ix3 ⟨m, hm⟩ p k) * inv (ix2 p 0)) * W (ix2 k j) := by
  unfold newSum
  rw [byRows_apply]
  unfold sumC
  rw [sum_raw]
  simp only [slabOf_apply _ _ hm, rowsOf_apply, colOf_apply, row_eq]

end Cert.KernelIdeal.Hand

end
-- ==== Proof.Ideal.ReadFs.lean ====
/-
  The row scales of the activation, laid along the lanes, read at a place.
-/
module

public import proofs.«01_k».proof.Proof.Ideal.ReadMid

@[expose] public section

set_option maxRecDepth 16384

noncomputable section

namespace Cert.KernelIdeal.Hand

open Cert.KernelIdeal Cert.KernelIdeal.Gen
open Idealize.ShloMosaic Cert.Spec

theorem fs_apply (q : ℕ) (mx : Vec Ideal S640x128 .f32) (old : Vec Ideal S2x640 .f32) (i : Fin 2) (l : Fin 640) :
    (newFs q mx old (ix2 i l) : EReal)
      = if BitVec.ofNat 32 i.val = BitVec.ofNat 32 q then scale (Finset.univ.fold max least fun k : Fin 128 => mx (ix2 l k)) else old (ix2 i l) := by
  unfold newFs
  rw [full2_eq, full2_eq]
  pointwise [k0_pay6, k0_pay36, k0_pay37, k0_pay38, k0_pay39, k0_pay40, k0_pay41]
  simp only [sel_eq, scale_raw]
  refine if_congr Iff.rfl ?_ rfl
  have key : ∀ p : Fin 640, p = l → scale (Finset.univ.fold max least fun k : Fin 128 => mx (ix2 p k)) = scale (Finset.univ.fold max least fun k : Fin 128 => mx (ix2 l k)) := by
    rintro _ rfl
    rfl
  split
  · next h => exact (pickIf _ h _).trans (key _ (Fin.ext rfl))
  split
  · next h => exact (pickIf _ h _).trans (key _ (Fin.ext (by show 128 + (l.val - 128) = l.val; omega)))
  split
  · next h => exact (pickIf _ h _).trans (key _ (Fin.ext (by show 256 + (l.val - 128 - 128) = l.val; omega)))
  split
  · next h => exact (pickIf _ h _).trans (key _ (Fin.ext (by show 384 + (l.val - 128 - 128 - 128) = l.val; omega)))
  · exact (pickIf _ (by omega) _).trans (key _ (Fin.ext (by show 512 + (l.val - 128 - 128 - 128 - 128) = l.val; omega)))

end Cert.KernelIdeal.Hand

end
-- ==== Proof.Ideal.ReadOut.lean ====
/-
  The last step of a batch read at a place: the normalised rows, their scales and codes.
-/
module

public import proofs.«01_k».proof.Proof.Ideal.ReadBase

@[expose] public section

set_option maxRecDepth 16384

noncomputable section

namespace Cert.KernelIdeal.Hand

open Cert.KernelIdeal Cert.KernelIdeal.Gen
open Idealize.ShloMosaic Cert.Spec

/-- The row the normalisation takes. -/
def rowU (y : Vec Ideal S640x1536 .f32) (rep : Vec Ideal S640x128 .f32) (b : Vec Ideal S1x1536 .f32) (h : Vec Ideal S640x1536 .f32) (p : Fin 640) (k : Fin 1536) : EReal :=
  y (ix2 p k) * rep (ix2 p 0) + b (ix2 0 k) + h (ix2 p k)

theorem norm_raw (y : Vec Ideal S128x1536 .f32) (s : Vec Ideal S128x1 .f32) (b : Vec Ideal S1x1536 .f32) (h : Vec Ideal S128x1536 .f32) (g be : Vec Ideal S1x1536 .f32)
    (i : Fin 128) (j : Fin 1536) :
    (k0_pay64 (F := Ideal) (k0_pay63 y s) b h g be (ix2 i j) : EReal)
      = normed (fun k => y (ix2 i k) * s (ix2 i 0) + b (ix2 0 k) + h (ix2 i k)) (fun k => g (ix2 0 k)) (fun k => be (ix2 0 k)) j := by
  unfold normed
  rw [← mul_div_one (spread_ne_zero _)]
  pointwise [k0_pay64, k0_pay63]
  simp only [spread, centred]

theorem nscale_raw (v : FVec Ideal S128x1536 .f32) (b : Vec Ideal S1x1536 .f32) (h : Vec Ideal S128x1536 .f32) (g be : Vec Ideal S1x1536 .f32) (i : Fin 128) :
    (k0_pay65 (F := Ideal) v b h g be (ix2 i 0) : EReal) = scale (amax fun k : Fin 1536 => k0_pay64 (F := Ideal) v b h g be (ix2 i k)) := by
  unfold k0_pay65
  generalize k0_pay64 (F := Ideal) v b h g be = u
  pointwise
  simp only [absf_eq, scale, amax]

theorem out_raw (v : FVec Ideal S128x1536 .f32) (s : FVec Ideal S128x1 .f32) (i : Fin 128) (hs : (s (ix2 i 0) : EReal) ≠ 0) (j : Fin 1536) :
    k0_pay66 (F := Ideal) v s (ix2 i j) = code (v (ix2 i j)) (s (ix2 i 0)) := by
  unfold code level
  rw [← mul_div_one hs]
  pointwise [k0_pay66]
  simp only [fptosi_eq]

theorem lanes_raw (p : BitVec 32) (s : FVec Ideal S128x1 .f32) (o : Vec Ideal S2x128 .f32) (i : Fin 2) (j : Fin 128) :
    (k0_pay67 (F := Ideal) p s o (ix2 i j) : EReal) = if BitVec.ofNat 32 i.val = p then s (ix2 j 0) else o (ix2 i j) := by
  pointwise [k0_pay67]
  rw [sel_eq, pick _ j.isLt]

/-! ## The results at a place -/

section
variable (y : Vec Ideal S640x1536 .f32) (rep : Vec Ideal S640x128 .f32) (b : Vec Ideal S1x1536 .f32) (h : Vec Ideal S640x1536 .f32) (g be : Vec Ideal S1x1536 .f32)

/-- The normalised row. -/
def rowN (p : Fin 640) (j : Fin 1536) : EReal := normed (rowU y rep b h p) (fun k => g (ix2 0 k)) (fun k => be (ix2 0 k)) j

theorem normC_apply (p : Fin 640) (j : Fin 1536) : (normC y rep b h g be (chunk p) (ix2 (place p) j) : EReal) = rowN y rep b h g be p j := by
  unfold normC
  rw [norm_raw, full2_eq, full2_eq, full2_eq]
  simp only [rowsOf_apply, colOf_apply, row_eq]
  rfl

theorem scaleC_apply (p : Fin 640) : (scaleC y rep b h g be (chunk p) (ix2 (place p) 0) : EReal) = scale (amax (rowN y rep b h g be p)) := by
  unfold scaleC
  rw [nscale_raw]
  exact congrArg (fun v => scale (amax v)) (funext fun k => normC_apply y rep b h g be p k)

theorem h2_apply (p : Fin 640) (j : Fin 1536) : (newH2 y rep b h g be (ix2 p j) : EReal) = rowN y rep b h g be p j := by
  unfold newH2
  rw [byRows_apply, normC_apply]

theorem out_apply (p : Fin 640) (j : Fin 1536) :
    newOut y rep b h g be (ix2 p j) = code (rowN y rep b h g be p j) (scale (amax (rowN y rep b h g be p))) := by
  unfold newOut
  rw [byRows_apply]
  unfold outC
  rw [out_raw, normC_apply, scaleC_apply]
  rw [scaleC_apply]
  exact scale_ne_zero _

theorem os_apply (q : ℕ) (old : Vec Ideal S2x640 .f32) (i : Fin 2) (l : Fin 640) :
    (newOs q y rep b h g be old (ix2 i l) : EReal) = if BitVec.ofNat 32 i.val = BitVec.ofNat 32 q then scale (amax (rowN y rep b h g be l)) else old (ix2 i l) := by
  unfold newOs
  rw [byLanes_apply, lanes_raw, scaleC_apply]
  simp only [lanesOf_apply, row_eq]
end

end Cert.KernelIdeal.Hand

end
-- ==== Proof.Ideal.Batch.lean ====
/-
  What a batch computes, in terms of the arrays the layer reads: the activation and its scales, the second product, and
  the results.
-/
module

public import proofs.«01_k».proof.Proof.Ideal.Blocks
public import proofs.«01_k».proof.Proof.Ideal.ReadIn
public import proofs.«01_k».proof.Proof.Ideal.ReadFs
public import proofs.«01_k».proof.Proof.Ideal.ReadOut

@[expose] public section

set_option maxRecDepth 16384

noncomputable section

namespace Cert.KernelIdeal.Hand

open Cert.KernelIdeal Cert.KernelIdeal.Gen
open Idealize.ShloMosaic Idealize.ShloMosaic.TcCoe Cert.Spec
open Idealize.SL Idealize.SL.Sem

variable (m : (ℓ : Loc nD τ sig) → Buf (Elt Ideal) ℓ) (c : Dev nD)

/-- Row `p` of batch `b`, in the whole arrays. -/
abbrev gr (b : ℕ) (hb : b < 2) (p : Fin 640) : Fin 1280 := ⟨640 * b + p.val, by omega⟩
/-- Column `q` of slab `k`. -/
abbrev gc (k : ℕ) (hk : k < 6) (q : Fin 1024) : Fin 6144 := ⟨1024 * k + q.val, by omega⟩

/-- The place of lane `l` of column group `e` of slab `k`. -/
abbrev lane (k : ℕ) (hk : k < 6) (e : Fin 8) (l : Fin 128) : Fin 6144 := ⟨1024 * k + (128 * e.val + l.val), by omega⟩

/-- What slab `k` adds to the second product. -/
def part (A : Args) (R : Fin 1280) (j : Fin 1536) (k : ℕ) : EReal :=
  if hk : k < 6 then ∑ i : Fin 1024, level (act A R (gc k hk i)) (actScale A R) * w2 A (gc k hk i) j else 0

section Batch

variable (b : ℕ) (hb : b < 2)
include hb

theorem hB_apply (p : Fin 640) (i : Fin 1536) : (hB m c b (ix2 p i) : EReal) = ((((argsOf m c).x (ix2 (gr b hb p) i)).toInt : ℝ) : EReal) := by
  unfold hB
  rw [full2_eq, ← in0_apply m c (pt (12 * b)) b (by have := pt_val hb (k := 0) (by omega); rw [Nat.add_zero] at this; omega) p i (by omega)]
  pointwise [k0_pay3]
  rw [sitofp_eq]

theorem w1B_apply (k : ℕ) (hk : k < 6) (i : Fin 1536) (q : Fin 1024) : (w1B m c b k (ix2 i q) : EReal) = w1 (argsOf m c) i (gc k hk q) := by
  have e := pt_val hb (k := k) (by omega)
  unfold w1B
  rw [w_in, in3_apply m c _ k (by omega) hk _ _ (by omega), in4_apply m c _ k (by omega) hk _ _ (by omega)]
  rfl

theorem slab_apply (k : ℕ) (hk : k < 6) (p : Fin 640) (q : Fin 1024) :
    (byRows (slabB m c b k) (ix2 p q) : EReal) = act (argsOf m c) (gr b hb p) (gc k hk q) := by
  have e := pt_val hb (k := k) (by omega)
  unfold slabB
  rw [act_apply, in1_apply m c _ b (by omega) _ _ (by omega), in5_apply m c _ k (by omega) hk _ _ (by omega)]
  simp only [hB_apply m c b hb, w1B_apply m c b hb k hk]
  rfl

theorem fB_apply (k : ℕ) (hk : k < 6) (p : Fin 640) (q : Fin 1024) :
    (fB m c b (ix3 ⟨k, hk⟩ p q) : EReal) = act (argsOf m c) (gr b hb p) (gc k hk q) := slab_apply m c b hb k hk p q

theorem mx_step (k : ℕ) (hk : k < 6) (old : Vec Ideal S640x128 .f32) (p : Fin 640) (l : Fin 128) (z : EReal) :
    (newMax (w1B m c b k) (hB m c b) (in1 m c (pt (12 * b + k))) (in5 m c (pt (12 * b + k))) old (ix2 p l) : EReal) ≤ z
      ↔ (old (ix2 p l) : EReal) ≤ z ∧ ∀ e : Fin 8, max (act (argsOf m c) (gr b hb p) (lane k hk e l)) (-(act (argsOf m c) (gr b hb p) (lane k hk e l))) ≤ z := by
  rw [max_apply, max8_le]
  refine and_congr Iff.rfl (forall_congr' fun e => ?_)
  have h := slab_apply m c b hb k hk p ⟨128 * e.val + l.val, by omega⟩
  unfold slabB at h
  rw [h]

omit hb in
theorem zero4 (p : Fin 640) (l : Fin 128) : (k0_pay4 (F := Ideal) (ix2 p l) : EReal) = 0 := by
  pointwise [k0_pay4]

theorem mxB_le (p : Fin 640) (l : Fin 128) (z : EReal) : ∀ (k : ℕ), k < 6 → ((mxB m c b k (ix2 p l) : EReal) ≤ z
      ↔ 0 ≤ z ∧ ∀ (k' : ℕ) (hk' : k' < 6), k' ≤ k → ∀ e : Fin 8,
          max (act (argsOf m c) (gr b hb p) (lane k' hk' e l)) (-(act (argsOf m c) (gr b hb p) (lane k' hk' e l))) ≤ z)
  | 0, hk => by
    unfold mxB
    rw [mx_step m c b hb 0 hk, zero4]
    refine and_congr Iff.rfl ⟨fun h k' hk' h0 => ?_, fun h => h 0 hk le_rfl⟩
    obtain rfl : k' = 0 := by omega
    exact h
  | k + 1, hk => by
    unfold mxB
    rw [mx_step m c b hb (k + 1) hk, mxB_le p l z k (by omega), and_assoc]
    refine and_congr Iff.rfl ⟨fun h k' hk' h0 => ?_, fun h => ⟨fun k' hk' h0 => h k' hk' (by omega), h (k + 1) hk le_rfl⟩⟩
    rcases Nat.lt_or_ge k k' with h1 | h1
    · obtain rfl : k' = k + 1 := by omega
      exact h.2
    · exact h.1 k' hk' h1

theorem mx_fold (p : Fin 640) : (Finset.univ.fold max least fun l : Fin 128 => mxB m c b 5 (ix2 p l)) = amax (act (argsOf m c) (gr b hb p)) := by
  refine eq_of_forall_ge_iff fun z => ?_
  rw [Finset.fold_max_le, amax_le_iff, least_eq]
  simp only [Finset.mem_univ, forall_true_left, bot_le, true_and]
  constructor
  · intro h J
    have hl := ((mxB_le m c b hb p ⟨J.val % 128, by omega⟩ z 5 (by omega)).1 (h _)).2 (J.val / 1024) (by omega) (by omega) ⟨J.val % 1024 / 128, by omega⟩
    have e : lane (J.val / 1024) (by omega) ⟨J.val % 1024 / 128, by omega⟩ ⟨J.val % 128, by omega⟩ = J := Fin.ext (by
      show 1024 * (J.val / 1024) + (128 * (J.val % 1024 / 128) + J.val % 128) = J.val
      omega)
    rw [e] at hl
    exact hl
  · intro h l
    refine (mxB_le m c b hb p l z 5 (by omega)).2 ⟨(Spec.abs_nonneg _).trans (h 0), fun k' hk' _ e => h _⟩

theorem inv_eq (p : Fin 640) (l : Fin 128) : (invB m c b (ix2 p l) : EReal) = Ideal.div 1 (actScale (argsOf m c) (gr b hb p)) := by
  unfold invB
  rw [inv_apply, mx_fold m c b hb]
  rfl
theorem rep_eq (p : Fin 640) (l : Fin 128) : (repB m c b (ix2 p l) : EReal) = actScale (argsOf m c) (gr b hb p) := by
  unfold repB
  rw [rep_apply, mx_fold m c b hb]
  rfl

/-- A value times one over its scale, rounded and clipped. -/
theorem clip_level (k : ℕ) (hk : k < 6) (p : Fin 640) (q : Fin 1024) :
    clip (fB m c b (ix3 ⟨k, hk⟩ p q) * invB m c b (ix2 p 0)) = level (act (argsOf m c) (gr b hb p) (gc k hk q)) (actScale (argsOf m c) (gr b hb p)) := by
  rw [fB_apply m c b hb, inv_eq m c b hb]
  unfold actScale clip level
  rw [mul_div_one (scale_ne_zero _)]

theorem codesB_apply (k : ℕ) (hk : k < 6) (p : Fin 640) (q : Fin 1024) :
    codesB m c b k (ix2 p q) = code (act (argsOf m c) (gr b hb p) (gc k hk q)) (actScale (argsOf m c) (gr b hb p)) := by
  unfold codesB
  rw [codes_apply]
  have e : (⟨k % 6, Nat.mod_lt _ (by decide)⟩ : Fin 6) = ⟨k, hk⟩ := Fin.ext (Nat.mod_eq_of_lt hk)
  rw [e, clip_level m c b hb]
  rfl

theorem w2B_apply (k : ℕ) (hk : k < 6) (i : Fin 1024) (j : Fin 1536) : (w2B m c b k (ix2 i j) : EReal) = w2 (argsOf m c) (gc k hk i) j := by
  have e := pt_val hb (k := 6 + k) (by omega)
  unfold w2B
  rw [w_out, in6_apply m c _ k (by omega) _ _ (by show 512 * k + i.val / 2 < 3072; omega), in7_apply m c _ k (by omega) _ _ (by show 8 * k + i.val / 128 < 48; omega)]
  unfold w2 nib
  have e1 : (1024 * k + i.val) % 2 = i.val % 2 := by omega
  have e2 : 512 * k + i.val / 2 = (1024 * k + i.val) / 2 := by omega
  have e3 : 8 * k + i.val / 128 = (1024 * k + i.val) / 128 := by omega
  simp only [e1, e2, e3]

theorem y_step (k : ℕ) (hk : k < 6) (hk' : k % 6 < 6) (old : Vec Ideal S640x1536 .f32) (p : Fin 640) (j : Fin 1536) :
    (newSum (k % 6) hk' (w2B m c b k) (fB m c b) (invB m c b) old (ix2 p j) : EReal) = old (ix2 p j) + part (argsOf m c) (gr b hb p) j k := by
  rw [sum_apply]
  have e : (⟨k % 6, hk'⟩ : Fin 6) = ⟨k, hk⟩ := Fin.ext (Nat.mod_eq_of_lt hk)
  rw [e]
  unfold part
  rw [dif_pos hk]
  simp only [clip_level m c b hb, w2B_apply m c b hb k hk]

omit hb in
theorem zero7 (p : Fin 640) (j : Fin 1536) : (k0_pay7 (F := Ideal) (ix2 p j) : EReal) = 0 := by
  pointwise [k0_pay7]

theorem yB_apply (p : Fin 640) (j : Fin 1536) : ∀ k : ℕ, k < 6 → (yB m c b k (ix2 p j) : EReal) = ∑ k' ∈ Finset.range (k + 1), part (argsOf m c) (gr b hb p) j k'
  | 0, hk => by
    unfold yB
    refine (y_step m c b hb 0 hk (by decide) (k0_pay7 (F := Ideal)) p j).trans ?_
    rw [zero7, zero_add, Finset.sum_range_one]
  | k + 1, hk => by
    unfold yB
    rw [y_step m c b hb (k + 1) hk, yB_apply p j k (by omega), Finset.sum_range_succ _ (k + 1)]

omit hb in
theorem part_sum (A : Args) (R : Fin 1280) (j : Fin 1536) : ∑ k ∈ Finset.range 6, part A R j k = prod A R j := by
  rw [Finset.sum_range]
  have e : ∀ k : Fin 6, part A R j k.val = ∑ i : Fin 1024, level (act A R (gc k.val k.isLt i)) (actScale A R) * w2 A (gc k.val k.isLt i) j := fun k => by
    unfold part
    rw [dif_pos k.isLt]
  rw [Finset.sum_congr rfl fun k _ => e k, ← Fintype.sum_prod_type']
  unfold prod
  refine (Fintype.sum_equiv (finProdFinEquiv (m := 6) (n := 1024)) _ (fun i : Fin 6144 => level (act A R i) (actScale A R) * w2 A i j) fun x => ?_)
  have e : gc x.1.val x.1.isLt x.2 = (finProdFinEquiv (m := 6) (n := 1024) x : Fin 6144) := Fin.ext (by
    show 1024 * x.1.val + x.2.val = x.2.val + 1024 * x.1.val
    omega)
  rw [e]

theorem row_apply (p : Fin 640) (t : Fin cfg0.N) (ht : t.val / 12 = b) :
    rowU (yB m c b 5) (repB m c b) (in8 m c t) (in2 m c t) p = row (argsOf m c) (gr b hb p) := by
  funext k
  unfold rowU row
  rw [yB_apply m c b hb p k 5 (by omega), part_sum, rep_eq m c b hb, in8_apply, in2_apply m c t b ht _ _ (by omega)]

theorem rowN_apply (p : Fin 640) (j : Fin 1536) :
    rowN (yB m c b 5) (repB m c b) (in8 m c (pt (12 * b + 11))) (in2 m c (pt (12 * b + 11))) (in9 m c (pt (12 * b + 11))) (in10 m c (pt (12 * b + 11))) p j
      = res (argsOf m c) (gr b hb p) j := by
  have e := pt_val hb (k := 11) (by omega)
  unfold rowN res
  rw [row_apply m c b hb p _ (by omega)]
  simp only [in9_apply, in10_apply]

theorem h2B_apply (p : Fin 640) (j : Fin 1536) : (h2B m c b (ix2 p j) : EReal) = res (argsOf m c) (gr b hb p) j := by
  unfold h2B
  rw [h2_apply, rowN_apply m c b hb]

theorem rowN_scale (p : Fin 640) :
    scale (amax (rowN (yB m c b 5) (repB m c b) (in8 m c (pt (12 * b + 11))) (in2 m c (pt (12 * b + 11))) (in9 m c (pt (12 * b + 11))) (in10 m c (pt (12 * b + 11))) p))
      = resScale (argsOf m c) (gr b hb p) :=
  congrArg (fun v => scale (amax v)) (funext fun j => rowN_apply m c b hb p j)

theorem outB_apply (p : Fin 640) (j : Fin 1536) : outB m c b (ix2 p j) = code (res (argsOf m c) (gr b hb p) j) (resScale (argsOf m c) (gr b hb p)) := by
  unfold outB
  rw [out_apply, rowN_apply m c b hb, rowN_scale m c b hb]

end Batch

theorem osAt_apply (i : Fin 2) (l : Fin 640) : (osAt m c 23 (ix2 i l) : EReal) = resScale (argsOf m c) ⟨i.val * 640 + l.val, by omega⟩ := by
  show (osB m c 1 (osB m c 0 (k0_pay2 (F := Ideal))) (ix2 i l) : EReal) = _
  unfold osB
  rw [os_apply, os_apply, rowN_scale m c 1 (by omega), rowN_scale m c 0 (by omega)]
  fin_cases i
  · exact (if_neg (by decide)).trans ((if_pos rfl).trans (congrArg _ (Fin.ext rfl)))
  · exact (if_pos rfl).trans (congrArg _ (Fin.ext rfl))

theorem fsAt_apply (i : Fin 2) (l : Fin 640) : (fsAt m c 23 (ix2 i l) : EReal) = actScale (argsOf m c) ⟨i.val * 640 + l.val, by omega⟩ := by
  show (newFs 1 (mxB m c 1 5) (newFs 0 (mxB m c 0 5) (k0_pay1 (F := Ideal))) (ix2 i l) : EReal) = _
  rw [fs_apply, fs_apply, mx_fold m c 1 (by omega), mx_fold m c 0 (by omega)]
  fin_cases i
  · exact (if_neg (by decide)).trans ((if_pos rfl).trans (congrArg (actScale (argsOf m c)) (Fin.ext rfl)))
  · exact (if_pos rfl).trans (congrArg (actScale (argsOf m c)) (Fin.ext rfl))

end Cert.KernelIdeal.Hand

end
-- ==== Proof.Ideal.Results.lean ====
/-
  The five results of the layer as whole arrays.
-/
module

public import proofs.«01_k».proof.Proof.Ideal.Spec

@[expose] public section

noncomputable section

namespace Cert.Spec

open Idealize.ShloMosaic

/-- An index of a matrix is a row and a column. -/
theorem pair_eq {a b : ℕ} (y : (⟨2, ![a, b]⟩ : Shape).Idx) : ∃ (p : Fin a) (q : Fin b), y = ix2 p q :=
  ⟨y 0, y 1, by funext i; fin_cases i <;> rfl⟩

/-- The codes of the layer's output. -/
def outCodes (A : Args) : (⟨2, ![1280, 1536]⟩ : Shape).Idx → Elt Ideal .i8 := fun y => code (res A (y 0) (y 1)) (resScale A (y 0))
/-- The layer's output. -/
def outRows (A : Args) : (⟨2, ![1280, 1536]⟩ : Shape).Idx → Elt Ideal .f32 := fun y => res A (y 0) (y 1)
/-- The codes of the activation. -/
def actCodes (A : Args) : (⟨2, ![1280, 6144]⟩ : Shape).Idx → Elt Ideal .i8 := fun y => code (act A (y 0) (y 1)) (actScale A (y 0))

/-- The row whose scale stands at a place of a two by 640 array. -/
def rowOf (y : (⟨2, ![2, 640]⟩ : Shape).Idx) : Fin 1280 :=
  ⟨(y 0).val * 640 + (y 1).val, by have h0 : (y 0).val < 2 := (y 0).isLt; have h1 : (y 1).val < 640 := (y 1).isLt; omega⟩

/-- The scales of the layer's output. -/
def outScales (A : Args) : (⟨2, ![2, 640]⟩ : Shape).Idx → Elt Ideal .f32 := fun y => resScale A (rowOf y)
/-- The scales of the activation. -/
def actScales (A : Args) : (⟨2, ![2, 640]⟩ : Shape).Idx → Elt Ideal .f32 := fun y => actScale A (rowOf y)

end Cert.Spec

end
-- ==== Proof.Ideal.Arrays.lean ====
/-
  The kernel's result arrays after its run.
-/
module

public import proofs.«01_k».proof.Proof.Ideal.Batch
public import proofs.«01_k».proof.Proof.Ideal.Results
public import proofs.«01_k».proof.Proof.Ideal.Track
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Cert.Spec
open Idealize.SL Idealize.SL.RA Idealize.SL.Sem
open Idealize.ShloMosaic.Pipeline (Dat RDat Cfg Window)

variable (m : (ℓ : Loc nD τ sig) → Buf (Elt Ideal) ℓ) (c : Dev nD)

theorem idx11 : ∀ t : Fin cfg0.N, win0_11.index t = ![t.val / 12, 0] := (by decide +kernel : ∀ t : Fin grid0.N, win0_11.index t = ![t.val / 12, 0])
theorem idx13 : ∀ t : Fin cfg0.N, win0_13.index t = ![t.val / 12, 0] := (by decide +kernel : ∀ t : Fin grid0.N, win0_13.index t = ![t.val / 12, 0])
theorem idx14 : ∀ t : Fin cfg0.N, 6 ≤ t.val % 12 → win0_14.index t = ![t.val / 12, t.val % 12 - 6] :=
  (by decide +kernel : ∀ t : Fin grid0.N, 6 ≤ t.val % 12 → win0_14.index t = ![t.val / 12, t.val % 12 - 6])

theorem flush11 : ∀ t : Fin cfg0.N, win0_11.flush t = true → t.val % 12 = 11 := (by decide +kernel : ∀ t : Fin grid0.N, win0_11.flush t = true → t.val % 12 = 11)
theorem flush13 : ∀ t : Fin cfg0.N, win0_13.flush t = true → t.val % 12 = 11 := (by decide +kernel : ∀ t : Fin grid0.N, win0_13.flush t = true → t.val % 12 = 11)
theorem flush14 : ∀ t : Fin cfg0.N, win0_14.flush t = true → 6 ≤ t.val % 12 := (by decide +kernel : ∀ t : Fin grid0.N, win0_14.flush t = true → 6 ≤ t.val % 12)
theorem flushes11 : ∀ t : Fin cfg0.N, t.val % 12 = 11 → win0_11.flush t = true := (by decide +kernel : ∀ t : Fin grid0.N, t.val % 12 = 11 → win0_11.flush t = true)
theorem flushes13 : ∀ t : Fin cfg0.N, t.val % 12 = 11 → win0_13.flush t = true := (by decide +kernel : ∀ t : Fin grid0.N, t.val % 12 = 11 → win0_13.flush t = true)
theorem flushes14 : ∀ t : Fin cfg0.N, 6 ≤ t.val % 12 → win0_14.flush t = true := (by decide +kernel : ∀ t : Fin grid0.N, 6 ≤ t.val % 12 → win0_14.flush t = true)
theorem last12 : win0_12.flush (pt 23) = true := by decide +kernel
theorem last15 : win0_15.flush (pt 23) = true := by decide +kernel

theorem batch_lt (t : Fin cfg0.N) : t.val / 12 < 2 := by
  have := lt_of_lt_of_eq t.isLt N_0
  omega

theorem outB_at (b : ℕ) (hb : b < 2) (y : S640x1536.Idx) (z : S1280x1536.Idx) (h0 : (z 0).val = 640 * b + (y 0).val) (h1 : (z 1).val = (y 1).val) :
    outB m c b y = outCodes (argsOf m c) z := by
  obtain ⟨p, q, rfl⟩ := pair_eq y
  rw [outB_apply m c b hb]
  have e0 : gr b hb p = z 0 := Fin.ext h0.symm
  have e1 : q = z 1 := Fin.ext h1.symm
  show code (res _ (gr b hb p) q) (resScale _ (gr b hb p)) = code (res _ (z 0) (z 1)) (resScale _ (z 0))
  rw [e0, e1]

theorem h2B_at (b : ℕ) (hb : b < 2) (y : S640x1536.Idx) (z : S1280x1536.Idx) (h0 : (z 0).val = 640 * b + (y 0).val) (h1 : (z 1).val = (y 1).val) :
    h2B m c b y = outRows (argsOf m c) z := by
  obtain ⟨p, q, rfl⟩ := pair_eq y
  refine (h2B_apply m c b hb _ _).trans ?_
  have e0 : gr b hb p = z 0 := Fin.ext h0.symm
  have e1 : q = z 1 := Fin.ext h1.symm
  show res _ (gr b hb p) q = res _ (z 0) (z 1)
  rw [e0, e1]

theorem codesB_at (b k : ℕ) (hb : b < 2) (hk : k < 6) (y : S640x1024.Idx) (z : S1280x6144.Idx) (h0 : (z 0).val = 640 * b + (y 0).val)
    (h1 : (z 1).val = 1024 * k + (y 1).val) : codesB m c b k y = actCodes (argsOf m c) z := by
  obtain ⟨p, q, rfl⟩ := pair_eq y
  rw [codesB_apply m c b hb k hk]
  have e0 : gr b hb p = z 0 := Fin.ext h0.symm
  have e1 : gc k hk q = z 1 := Fin.ext h1.symm
  show code (act _ (gr b hb p) (gc k hk q)) (actScale _ (gr b hb p)) = code (act _ (z 0) (z 1)) (actScale _ (z 0))
  rw [e0, e1]

theorem osAt_eq : osAt m c 23 = outScales (argsOf m c) := by
  funext y
  obtain ⟨p, q, rfl⟩ := pair_eq y
  exact osAt_apply m c _ _

theorem fsAt_eq : fsAt m c 23 = actScales (argsOf m c) := by
  funext y
  obtain ⟨p, q, rfl⟩ := pair_eq y
  exact fsAt_apply m c _ _

variable (dat : Dat τ (Elt Ideal) Unit ℕ (UR sig nD τ) ℕ cfg0 c)

theorem arr11 (h : ∀ t : Fin cfg0.N, t.val % 12 = 11 → dat.after 11 t = outB m c (t.val / 12)) :
    dat.arrAt 11 cfg0.N = outCodes (argsOf m c) := by
  refine dat.arrAt_eq_of_covers 11 _ (by decide +kernel) fun t ht y => ?_
  rw [h t (flush11 t ht)]
  refine outB_at m c _ (batch_lt t) _ _ ?_ ?_
  · blk_simp [idx11 t]
    exact congrArg (· + _) (Nat.mul_comm _ _)
  · blk_simp [idx11 t]

theorem arr13 (h : ∀ t : Fin cfg0.N, t.val % 12 = 11 → dat.after 13 t = h2B m c (t.val / 12)) :
    dat.arrAt 13 cfg0.N = outRows (argsOf m c) := by
  refine dat.arrAt_eq_of_covers 13 _ (by decide +kernel) fun t ht y => ?_
  rw [h t (flush13 t ht)]
  refine h2B_at m c _ (batch_lt t) _ _ ?_ ?_
  · blk_simp [idx13 t]
    exact congrArg (· + _) (Nat.mul_comm _ _)
  · blk_simp [idx13 t]

theorem arr14 (h : ∀ t : Fin cfg0.N, 6 ≤ t.val % 12 → dat.after 14 t = codesB m c (t.val / 12) (t.val % 12 - 6)) :
    dat.arrAt 14 cfg0.N = actCodes (argsOf m c) := by
  refine dat.arrAt_eq_of_covers 14 _ (by decide +kernel) fun t ht y => ?_
  rw [h t (flush14 t ht)]
  refine codesB_at m c _ _ (batch_lt t) (by omega) _ _ ?_ ?_
  · blk_simp [idx14 t (flush14 t ht)]
    exact congrArg (· + _) (Nat.mul_comm _ _)
  · blk_simp [idx14 t (flush14 t ht)]
    exact congrArg (· + _) (Nat.mul_comm _ _)

theorem arr12 (h : dat.after 12 (pt 23) = osAt m c 23) : dat.arrAt 12 cfg0.N = outScales (argsOf m c) := by
  refine dat.arrAt_eq_of_after_last 12 (pt 23) (by decide +kernel) _ fun j => ?_
  rw [h, osAt_eq]
  rfl

theorem arr15 (h : dat.after 15 (pt 23) = fsAt m c 23) : dat.arrAt 15 cfg0.N = actScales (argsOf m c) := by
  refine dat.arrAt_eq_of_after_last 15 (pt 23) (by decide +kernel) _ fun j => ?_
  rw [h, fsAt_eq]
  rfl

/-- The five result arrays at the end of a run. -/
theorem results (r : PUnit × MemSt nD τ sig (Elt Ideal)) (h : Pipeline.RDat.FramePost (cfgs 0) (rdat m) (V m) r) :
    r.2.mem ((c : Thread nD τ).loc main_v1_0) = outCodes (argsOf m c)
    ∧ r.2.mem ((c : Thread nD τ).loc main_v1_1) = outScales (argsOf m c)
    ∧ r.2.mem ((c : Thread nD τ).loc main_v1_2) = outRows (argsOf m c)
    ∧ r.2.mem ((c : Thread nD τ).loc main_v1_3) = actCodes (argsOf m c)
    ∧ r.2.mem ((c : Thread nD τ).loc main_v1_4) = actScales (argsOf m c) := by
  obtain ⟨after, hl, ha⟩ := Pipeline.RDat.FramePost.exists_exact h c
  refine ⟨(ha 11).trans (arr11 m c _ fun t e => ?_), (ha 12).trans (arr12 m c _ ?_), (ha 13).trans (arr13 m c _ fun t e => ?_),
    (ha 14).trans (arr14 m c _ fun t e => ?_), (ha 15).trans (arr15 m c _ ?_)⟩
  · obtain ⟨_, _, hx⟩ := hl 11 t (flushes11 t e)
    exact hx e
  · obtain ⟨_, _, hx⟩ := hl 12 (pt 23) last12
    exact hx
  · obtain ⟨_, _, hx⟩ := hl 13 t (flushes13 t e)
    exact hx e
  · obtain ⟨_, _, hx⟩ := hl 14 t (flushes14 t e)
    exact hx e
  · obtain ⟨_, _, hx⟩ := hl 15 (pt 23) last15
    exact hx

end Cert.KernelIdeal.Hand

end
-- ==== Proof.Ideal.RefRead.lean ====
/-
  The reference's arrays, read at an index, are the layer's arithmetic.
-/
module

public import proofs.«01_k».proof.Proof.Ideal.Spec
public import proofs.«01_k».proof.Proof.Gen.ReferenceIdeal.Skeleton

@[expose] public section

set_option maxRecDepth 16384

noncomputable section

namespace Cert.ReferenceIdeal.Hand

open Cert.ReferenceIdeal Cert.ReferenceIdeal.Gen
open Idealize.ShloMosaic Cert.Spec

theorem div64 (i : ℕ) : i / 2 / 64 = i / 128 := by omega
theorem pack64 (i : ℕ) : i / 128 * 64 + i / 2 % 64 = i / 2 := by omega
variable (A : Args)

theorem pay5_apply (R : Fin 1280) (J : Fin 6144) : k0_pay5 (F := Ideal) A.x A.q1 A.s1 A.r (ix2 R J) = pre A R J := by
  pointwise [k0_pay5]
  simp only [div64, pack64]
  unfold pre w1 nib lo hi
  refine congrArg (· * _) (Finset.sum_congr rfl fun i _ => congrArg (_ * ·) ?_)
  split <;> rfl

theorem pay6_apply (x : FVec Ideal S1280x6144 .f32) (b : Vec Ideal S1x6144 .f32) (R : Fin 1280) (J : Fin 6144) :
    k0_pay6 (F := Ideal) x b (ix2 R J) = gelu (x (ix2 R J) + b (ix2 0 J)) := by
  pointwise [k0_pay6]
  simp only [erf_eq, gelu]

theorem rowmax {a b : ℕ} (v : FVec Ideal ⟨2, ![a, b]⟩ .f32) (h : (⟨2, ![a, b]⟩ : Shape).Reduces [1] ⟨1, ![a]⟩) (hφ : FKind.Formats .f32)
    (hacc : 4286578688#32 = FKind.maximumf.neutral .f32 hφ) (i : Fin a) :
    multiReduction .maximumf [1] ⟨1, ![a]⟩ (absf v) 4286578688#32 h hφ hacc (ix1 i) = amax fun k : Fin b => v (ix2 i k) := by
  rw [multiReduction_maximumf_eq_fold]
  exact h.fold_fiber_r2_a1 _ _ _ _

theorem scale_aux (w : FVec Ideal S1280 .f32) (R : Fin 1280) (a : EReal) (h : w (ix1 R) = a) :
    select (cmpf .oeq (shapeCast S1280x1 w shapeCasts_S1280_S1280x1) (broadcast S1280x1 (Scalar.ofBits (F := Ideal) .f32 0x00000000#32)))
        (broadcast S1280x1 (Scalar.ofBits (F := Ideal) .f32 0x3F800000#32))
        (divf (shapeCast S1280x1 w shapeCasts_S1280_S1280x1) (broadcast S1280x1 (Scalar.ofBits (F := Ideal) .f32 0x42FE0000#32))) (ix2 R 0)
      = scale a := by
  subst h
  unfold scale
  pointwise

theorem pay7_apply (x : FVec Ideal S1280x6144 .f32) (b : Vec Ideal S1x6144 .f32) (R : Fin 1280) :
    k0_pay7 (F := Ideal) x b (ix2 R 0) = scale (amax fun J => k0_pay6 (F := Ideal) x b (ix2 R J)) := by
  delta k0_pay7
  exact scale_aux _ R _ (rowmax _ _ _ _ R)

theorem pay8_aux (v : FVec Ideal S1280x6144 .f32) (s : FVec Ideal S1280x1 .f32) (c1 c2 : Ideal .f32) (R : Fin 1280) (J : Fin 6144) :
    fptosi 8 (minimumf (broadcast S1280x6144 c1) (maximumf (broadcast S1280x6144 c2) (roundeven (divf v (broadcastTo S1280x6144 s broadcasts_S1280x1_S1280x6144))))) (ix2 R J)
      = FloatOps.fptosi 8 (min c1 (max c2 (Ideal.liftRound Ideal.roundHalfEven (Ideal.div (v (ix2 R J)) (s (ix2 R 0)))))) := by
  pointwise

theorem top127_int : Scalar.sitofp (F := Ideal) .f32 127#32 = top127 := by
  rw [top127_eq]
  show (((127#32).toInt : ℝ) : EReal) = _
  rw [show (127#32).toInt = 127 by decide]
  norm_num
theorem low127_int : Scalar.sitofp (F := Ideal) .f32 4294967169#32 = low127 := by
  rw [low127_eq]
  show (((4294967169#32).toInt : ℝ) : EReal) = _
  rw [show (4294967169#32).toInt = -127 by decide]
  norm_num

theorem pay8_apply (x : FVec Ideal S1280x6144 .f32) (b : Vec Ideal S1x6144 .f32) (R : Fin 1280) (J : Fin 6144) :
    k0_pay8 (F := Ideal) x b (ix2 R J) = code (k0_pay6 (F := Ideal) x b (ix2 R J)) (k0_pay7 (F := Ideal) x b (ix2 R 0)) := by
  delta k0_pay8
  refine (pay8_aux _ _ _ _ R J).trans ?_
  rw [top127_int, low127_int]
  rfl

theorem pay9_apply (x : FVec Ideal S1280x6144 .f32) (b : Vec Ideal S1x6144 .f32) (p : Fin 2) (q : Fin 640) :
    k0_pay9 (F := Ideal) x b (ix2 p q) = k0_pay7 (F := Ideal) x b (ix2 ⟨p.val * 640 + q.val, by omega⟩ 0) := by
  pointwise [k0_pay9]

theorem pay10_apply (x : FVec Ideal S1280x6144 .f32) (b : Vec Ideal S1x6144 .f32) (R : Fin 1280) (J : Fin 6144) :
    k0_pay10 (F := Ideal) x b (ix2 R J) = level (k0_pay6 (F := Ideal) x b (ix2 R J)) (k0_pay7 (F := Ideal) x b (ix2 R 0)) := by
  rw [← toInt_code, ← pay8_apply]
  pointwise [k0_pay10]
  rfl

theorem pay14_apply (sc : FVec Ideal S1280x1 .f32) (f : FVec Ideal S1280x6144 .bf16) (R : Fin 1280) (j : Fin 1536) :
    k0_pay14 (F := Ideal) sc f A.s2 (k0_pay11 A.q2) (k0_pay12 A.q2) k0_pay13 A.b2 A.h (ix2 R j)
      = centred (fun k => (∑ i : Fin 6144, f (ix2 R i) * w2 A i k) * sc (ix2 R 0) + A.b2 (ix2 0 k) + A.h (ix2 R k)) j := by
  pointwise [k0_pay14, k0_pay11, k0_pay12, k0_pay13]
  simp only [div64, pack64]
  unfold centred w2 nib lo hi
  simp only [sitofp_eq]
  refine congrArg₂ (fun a b => a - Ideal.div b width) ?_ (Finset.sum_congr rfl fun k _ => ?_) <;>
  refine congrArg (fun a => a * _ + _ + _) (Finset.sum_congr rfl fun i _ => congrArg (_ * ·) ?_) <;> split <;> rfl

theorem pay1_apply (g b : Vec Ideal S1x1536 .f32) (d : FVec Ideal S1280x1536 .f32) (R : Fin 1280) (j : Fin 1536) :
    k0_pay1 (F := Ideal) g b d (ix2 R j) = Ideal.div (d (ix2 R j)) (spread fun k => d (ix2 R k)) * g (ix2 0 j) + b (ix2 0 j) := by
  pointwise [k0_pay1]
  simp only [spread]

theorem pay2_apply (g b : Vec Ideal S1x1536 .f32) (d : FVec Ideal S1280x1536 .f32) (R : Fin 1280) :
    k0_pay2 (F := Ideal) g b d (ix2 R 0) = scale (amax fun j => k0_pay1 (F := Ideal) g b d (ix2 R j)) := by
  delta k0_pay2
  exact scale_aux _ R _ (rowmax _ _ _ _ R)

theorem pay3_aux (v : FVec Ideal S1280x1536 .f32) (s : FVec Ideal S1280x1 .f32) (c1 c2 : Ideal .f32) (R : Fin 1280) (J : Fin 1536) :
    fptosi 8 (minimumf (broadcast S1280x1536 c1) (maximumf (broadcast S1280x1536 c2) (roundeven (divf v (broadcastTo S1280x1536 s broadcasts_S1280x1_S1280x1536))))) (ix2 R J)
      = FloatOps.fptosi 8 (min c1 (max c2 (Ideal.liftRound Ideal.roundHalfEven (Ideal.div (v (ix2 R J)) (s (ix2 R 0)))))) := by
  pointwise

theorem pay3_apply (g b : Vec Ideal S1x1536 .f32) (d : FVec Ideal S1280x1536 .f32) (R : Fin 1280) (j : Fin 1536) :
    k0_pay3 (F := Ideal) g b d (ix2 R j) = code (k0_pay1 (F := Ideal) g b d (ix2 R j)) (k0_pay2 (F := Ideal) g b d (ix2 R 0)) := by
  delta k0_pay3
  refine (pay3_aux _ _ _ _ R j).trans ?_
  rw [top127_int, low127_int]
  rfl

theorem pay4_apply (g b : Vec Ideal S1x1536 .f32) (d : FVec Ideal S1280x1536 .f32) (p : Fin 2) (q : Fin 640) :
    k0_pay4 (F := Ideal) g b d (ix2 p q) = k0_pay2 (F := Ideal) g b d (ix2 ⟨p.val * 640 + q.val, by omega⟩ 0) := by
  pointwise [k0_pay4]

/-! ## The whole of it -/

/-- The scaled first product, as the reference writes it. -/
abbrev refPre : FVec Ideal S1280x6144 .f32 := k0_pay5 (F := Ideal) A.x A.q1 A.s1 A.r
/-- The centred row, as the reference writes it. -/
abbrev refRow : FVec Ideal S1280x1536 .f32 :=
  k0_pay14 (F := Ideal) (k0_pay7 (refPre A) A.b1) (k0_pay10 (refPre A) A.b1) A.s2 (k0_pay11 A.q2) (k0_pay12 A.q2) k0_pay13 A.b2 A.h

theorem ref_act (R : Fin 1280) (J : Fin 6144) : k0_pay6 (F := Ideal) (refPre A) A.b1 (ix2 R J) = act A R J := by
  rw [pay6_apply, refPre, pay5_apply]
  rfl
theorem ref_actScale (R : Fin 1280) : k0_pay7 (F := Ideal) (refPre A) A.b1 (ix2 R 0) = actScale A R := by
  rw [pay7_apply]
  simp only [ref_act]
  rfl
theorem ref_actCode (R : Fin 1280) (J : Fin 6144) : k0_pay8 (F := Ideal) (refPre A) A.b1 (ix2 R J) = code (act A R J) (actScale A R) := by
  rw [pay8_apply, ref_act, ref_actScale]
theorem ref_actScales (p : Fin 2) (q : Fin 640) : k0_pay9 (F := Ideal) (refPre A) A.b1 (ix2 p q) = actScale A ⟨p.val * 640 + q.val, by omega⟩ := by
  rw [pay9_apply, ref_actScale]
theorem ref_row (R : Fin 1280) (j : Fin 1536) : refRow A (ix2 R j) = centred (row A R) j := by
  unfold refRow
  rw [pay14_apply]
  simp only [pay10_apply, ref_act, ref_actScale]
  rfl
theorem ref_res (R : Fin 1280) (j : Fin 1536) : k0_pay1 (F := Ideal) A.g A.b (refRow A) (ix2 R j) = res A R j := by
  rw [pay1_apply]
  simp only [ref_row]
  rfl
theorem ref_resScale (R : Fin 1280) : k0_pay2 (F := Ideal) A.g A.b (refRow A) (ix2 R 0) = resScale A R := by
  rw [pay2_apply]
  simp only [ref_res]
  rfl
theorem ref_resCode (R : Fin 1280) (j : Fin 1536) : k0_pay3 (F := Ideal) A.g A.b (refRow A) (ix2 R j) = code (res A R j) (resScale A R) := by
  rw [pay3_apply, ref_res, ref_resScale]
theorem ref_resScales (p : Fin 2) (q : Fin 640) : k0_pay4 (F := Ideal) A.g A.b (refRow A) (ix2 p q) = resScale A ⟨p.val * 640 + q.val, by omega⟩ := by
  rw [pay4_apply, ref_resScale]

end Cert.ReferenceIdeal.Hand

end
-- ==== Proof.Ideal.RefArrays.lean ====
/-
  The reference's result arrays after its run.
-/
module

public import proofs.«01_k».proof.Proof.Ideal.RefRead
public import proofs.«01_k».proof.Proof.Ideal.Results
public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Cert.Spec
open Idealize.SL Idealize.SL.Sem
open Idealize.ShloMosaic.Pipeline (Dat RDat Cfg Window)

variable (m : (ℓ : Loc nD τ sig) → Buf (Elt Ideal) ℓ) (c : Dev nD)

/-- The arrays the reference reads, in a memory. -/
def argsOf : Args where
  x := m ((c : Thread nD τ).loc main_arg0)
  r := m ((c : Thread nD τ).loc main_arg1)
  h := m ((c : Thread nD τ).loc main_arg2)
  q1 := m ((c : Thread nD τ).loc main_arg3)
  s1 := m ((c : Thread nD τ).loc main_arg4)
  b1 := m ((c : Thread nD τ).loc main_arg5)
  q2 := m ((c : Thread nD τ).loc main_arg6)
  s2 := m ((c : Thread nD τ).loc main_arg7)
  b2 := m ((c : Thread nD τ).loc main_arg8)
  g := m ((c : Thread nD τ).loc main_arg9)
  b := m ((c : Thread nD τ).loc main_arg10)

theorem zero2 : (![0, 0] : Fin 2 → ℕ) = fun _ => 0 := by funext a; fin_cases a <;> rfl

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])

theorem blk0 (t : Fin cfg0.N) : iblk m c 0 t = (argsOf m c).x := by
  funext y
  blk_simp [iblk]
  rw [V_main_arg0]
  refine congrArg (argsOf m c).x ?_
  blk_ext [idx0 t]
theorem blk1 (t : Fin cfg0.N) : iblk m c 1 t = (argsOf m c).r := by
  funext y
  blk_simp [iblk]
  rw [V_main_arg1]
  refine congrArg (argsOf m c).r ?_
  blk_ext [idx1 t]
theorem blk2 (t : Fin cfg0.N) : iblk m c 2 t = (argsOf m c).h := by
  funext y
  blk_simp [iblk]
  rw [V_main_arg2]
  refine congrArg (argsOf m c).h ?_
  blk_ext [idx2 t]
theorem blk3 (t : Fin cfg0.N) : iblk m c 3 t = (argsOf m c).q1 := by
  funext y
  blk_simp [iblk]
  rw [V_main_arg3]
  refine congrArg (argsOf m c).q1 ?_
  blk_ext [idx3 t]
theorem blk4 (t : Fin cfg0.N) : iblk m c 4 t = (argsOf m c).s1 := by
  funext y
  blk_simp [iblk]
  rw [V_main_arg4]
  refine congrArg (argsOf m c).s1 ?_
  blk_ext [idx4 t]
theorem blk5 (t : Fin cfg0.N) : iblk m c 5 t = (argsOf m c).b1 := by
  funext y
  blk_simp [iblk]
  rw [V_main_arg5]
  refine congrArg (argsOf m c).b1 ?_
  blk_ext [idx5 t]
theorem blk6 (t : Fin cfg0.N) : iblk m c 6 t = (argsOf m c).q2 := by
  funext y
  blk_simp [iblk]
  rw [V_main_arg6]
  refine congrArg (argsOf m c).q2 ?_
  blk_ext [idx6 t]
theorem blk7 (t : Fin cfg0.N) : iblk m c 7 t = (argsOf m c).s2 := by
  funext y
  blk_simp [iblk]
  rw [V_main_arg7]
  refine congrArg (argsOf m c).s2 ?_
  blk_ext [idx7 t]
theorem blk8 (t : Fin cfg0.N) : iblk m c 8 t = (argsOf m c).b2 := by
  funext y
  blk_simp [iblk]
  rw [V_main_arg8]
  refine congrArg (argsOf m c).b2 ?_
  blk_ext [idx8 t]
theorem blk9 (t : Fin cfg0.N) : iblk m c 9 t = (argsOf m c).g := by
  funext y
  blk_simp [iblk]
  rw [V_main_arg9]
  refine congrArg (argsOf m c).g ?_
  blk_ext [idx9 t]
theorem blk10 (t : Fin cfg0.N) : iblk m c 10 t = (argsOf m c).b := by
  funext y
  blk_simp [iblk]
  rw [V_main_arg10]
  refine congrArg (argsOf m c).b ?_
  blk_ext [idx10 t]

theorem pay15_eq (A : Args) : k0_pay15 (F := Ideal) A.x A.r A.h A.q1 A.s1 A.b1 A.q2 A.s2 A.b2 A.g A.b = refPre A := by
  unfold k0_pay15 refPre
  rw [View.ld_unit_zero (S := S1280x1536) zero2, View.ld_unit_zero (S := S768x6144) zero2, View.ld_unit_zero (S := S12x6144) zero2, View.ld_unit_zero (S := S1280x128) zero2]

theorem pay16_eq (A : Args) : k0_pay16 (F := Ideal) A.x A.r A.h A.q1 A.s1 A.b1 A.q2 A.s2 A.b2 A.g A.b = refRow A := by
  unfold k0_pay16 refRow
  rw [pay15_eq, View.ld_unit_zero (S := S1x6144) zero2, View.ld_unit_zero (S := S48x1536) zero2, View.ld_unit_zero (S := S3072x1536) zero2, View.ld_unit_zero (S := S1x1536) zero2,
    View.ld_unit_zero (S := S1280x1536) zero2]

theorem out11_eq (A : Args) : out0_11 (F := Ideal) A.x A.r A.h A.q1 A.s1 A.b1 A.q2 A.s2 A.b2 A.g A.b = outCodes A := by
  unfold out0_11
  rw [pay16_eq, View.canon_unit_zero (S := S1280x1536) zero2, View.ld_unit_zero (S := S1x1536) zero2, View.ld_unit_zero (S := S1x1536) zero2]
  funext y
  obtain ⟨p, q, rfl⟩ := pair_eq y
  rw [ref_resCode]
  rfl

theorem out12_eq (A : Args) : out0_12 (F := Ideal) A.x A.r A.h A.q1 A.s1 A.b1 A.q2 A.s2 A.b2 A.g A.b = outScales A := by
  unfold out0_12
  rw [pay16_eq, View.canon_unit_zero (S := S2x640) zero2, View.ld_unit_zero (S := S1x1536) zero2, View.ld_unit_zero (S := S1x1536) zero2]
  funext y
  obtain ⟨p, q, rfl⟩ := pair_eq y
  rw [ref_resScales]
  rfl

theorem out13_eq (A : Args) : out0_13 (F := Ideal) A.x A.r A.h A.q1 A.s1 A.b1 A.q2 A.s2 A.b2 A.g A.b = outRows A := by
  unfold out0_13
  rw [pay16_eq, View.canon_unit_zero (S := S1280x1536) zero2, View.ld_unit_zero (S := S1x1536) zero2, View.ld_unit_zero (S := S1x1536) zero2]
  funext y
  obtain ⟨p, q, rfl⟩ := pair_eq y
  rw [ref_res]
  rfl

theorem out14_eq (A : Args) : out0_14 (F := Ideal) A.x A.r A.h A.q1 A.s1 A.b1 A.q2 A.s2 A.b2 A.g A.b = actCodes A := by
  unfold out0_14
  rw [pay15_eq, View.canon_unit_zero (S := S1280x6144) zero2, View.ld_unit_zero (S := S1x6144) zero2]
  funext y
  obtain ⟨p, q, rfl⟩ := pair_eq y
  rw [ref_actCode]
  rfl

theorem out15_eq (A : Args) : out0_15 (F := Ideal) A.x A.r A.h A.q1 A.s1 A.b1 A.q2 A.s2 A.b2 A.g A.b = actScales A := by
  unfold out0_15
  rw [pay15_eq, View.canon_unit_zero (S := S2x640) zero2, View.ld_unit_zero (S := S1x6144) zero2]
  funext y
  obtain ⟨p, q, rfl⟩ := pair_eq y
  rw [ref_actScales]
  rfl

/-- The one point of the reference's grid. -/
abbrev t0 : Fin cfg0.N := ⟨0, by decide⟩

theorem arr11 : (dats m 0 c).arrAt 11 cfg0.N = outCodes (argsOf m c) := by
  refine (dats m 0 c).arrAt_eq_of_after_last 11 t0 (by decide +kernel) _ fun j => ?_
  rw [after0_11, blk0, blk1, blk2, blk3, blk4, blk5, blk6, blk7, blk8, blk9, blk10, out11_eq]
  rfl
theorem arr12 : (dats m 0 c).arrAt 12 cfg0.N = outScales (argsOf m c) := by
  refine (dats m 0 c).arrAt_eq_of_after_last 12 t0 (by decide +kernel) _ fun j => ?_
  rw [after0_12, blk0, blk1, blk2, blk3, blk4, blk5, blk6, blk7, blk8, blk9, blk10, out12_eq]
  rfl
theorem arr13 : (dats m 0 c).arrAt 13 cfg0.N = outRows (argsOf m c) := by
  refine (dats m 0 c).arrAt_eq_of_after_last 13 t0 (by decide +kernel) _ fun j => ?_
  rw [after0_13, blk0, blk1, blk2, blk3, blk4, blk5, blk6, blk7, blk8, blk9, blk10, out13_eq]
  rfl
theorem arr14 : (dats m 0 c).arrAt 14 cfg0.N = actCodes (argsOf m c) := by
  refine (dats m 0 c).arrAt_eq_of_after_last 14 t0 (by decide +kernel) _ fun j => ?_
  rw [after0_14, blk0, blk1, blk2, blk3, blk4, blk5, blk6, blk7, blk8, blk9, blk10, out14_eq]
  rfl
theorem arr15 : (dats m 0 c).arrAt 15 cfg0.N = actScales (argsOf m c) := by
  refine (dats m 0 c).arrAt_eq_of_after_last 15 t0 (by decide +kernel) _ fun j => ?_
  rw [after0_15, blk0, blk1, blk2, blk3, blk4, blk5, blk6, blk7, blk8, blk9, blk10, out15_eq]
  rfl

/-- The five result arrays at the end of a run of the reference. -/
theorem results (r : PUnit × MemSt nD τ sig (Elt Ideal)) (h : Pipeline.FramePost cfgs (dats m) 0 (V m) r) :
    r.2.mem ((c : Thread nD τ).loc main_v0_0) = outCodes (argsOf m c)
    ∧ r.2.mem ((c : Thread nD τ).loc main_v0_1) = outScales (argsOf m c)
    ∧ r.2.mem ((c : Thread nD τ).loc main_v0_2) = outRows (argsOf m c)
    ∧ r.2.mem ((c : Thread nD τ).loc main_v0_3) = actCodes (argsOf m c)
    ∧ r.2.mem ((c : Thread nD τ).loc main_v0_4) = actScales (argsOf m c) :=
  ⟨((h c).1 11).trans (arr11 m c), ((h c).1 12).trans (arr12 m c), ((h c).1 13).trans (arr13 m c),
    ((h c).1 14).trans (arr14 m c), ((h c).1 15).trans (arr15 m c)⟩

end Cert.ReferenceIdeal.Hand

end
-- ==== Proof.Ideal.Equal.lean ====
/-
  The kernel and the reference end with the same five results.
-/
module

public import proofs.«01_k».proof.Defs
public import proofs.«01_k».proof.Proof.Ideal.Arrays
public import proofs.«01_k».proof.Proof.Ideal.RefArrays
public import Idealize.ShloMosaic.Lib.Claim

@[expose] public section

noncomputable section

namespace Cert.Equal

open Idealize.ShloMosaic Idealize.SL.Sem Cert.Spec

/-- Memories that agree on the arguments give the kernel and the reference the same arrays to read. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Hand.argsOf m' c = Cert.KernelIdeal.Hand.argsOf m c := by
  obtain ⟨h0, h1, h2, h3, h4, h5, h6, h7, h8, h9, h10⟩ := h
  unfold Cert.ReferenceIdeal.Hand.argsOf Cert.KernelIdeal.Hand.argsOf
  congr 1

/-- The value claim. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => outCodes (Cert.KernelIdeal.Hand.argsOf m c), fun c => outScales (Cert.KernelIdeal.Hand.argsOf m c),
    fun c => outRows (Cert.KernelIdeal.Hand.argsOf m c), fun c => actCodes (Cert.KernelIdeal.Hand.argsOf m c),
    fun c => actScales (Cert.KernelIdeal.Hand.argsOf m c), ?_, ?_⟩
  · refine (θ_run _ _ _).mono ?_ (θ_run_and (Cert.KernelIdeal.Hand.run_main m g) (Cert.KernelIdeal.Hand.frame m g))
    rintro r ⟨⟨h, _⟩, k, _⟩ c
    obtain ⟨r0, r1, r2, r3, r4⟩ := Cert.KernelIdeal.Hand.results m c r h
    exact ⟨r0, r1, r2, r3, r4, k c⟩
  · refine (θ_run _ _ _).mono ?_ (θ_run_and (Cert.ReferenceIdeal.Gen.run_main m' g') (Cert.ReferenceIdeal.Gen.unchanged m' g'))
    rintro r ⟨h, k⟩ c
    obtain ⟨r0, r1, r2, r3, r4⟩ := Cert.ReferenceIdeal.Hand.results m' c r h
    rw [args_eq m m' c (hm c)] at r0 r1 r2 r3 r4
    exact ⟨r0, r1, r2, r3, r4, k c⟩

end Cert.Equal

end
-- ==== Proof.lean ====
module

public import proofs.«01_k».proof.Defs
public import proofs.«01_k».proof.Proof.Bits.Frame
public import proofs.«01_k».proof.Proof.Ideal.Track
public import proofs.«01_k».proof.Proof.Ideal.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, Cert.Equal.algebraic⟩

end Cert.Proof

end
